-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sg_nonzero [hPre_sg_nonzero : Cert.Pre_sg_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_sg_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sg_nonzero [hPre_sg_nonzero : Cert.Pre_sg_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sg_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sg_nonzero [hKernelIdeal : Cert.KernelIdeal.Facts] [hPre_sg_nonzero : Cert.Pre_sg_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sg_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sg_nonzero [hReferenceIdeal : Cert.ReferenceIdeal.Facts] [hPre_sg_nonzero : Cert.Pre_sg_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sg_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x3C00068E#32 ((5001 / 640000 : ℝ) : EReal)
  ∧ IdealRules.named_const.Statement Cert.KernelIdeal.κ "lo" .f32 0xB8D1B717#32 ((-1 / 10000 : ℝ) : EReal)
  ∧ IdealRules.named_const.Statement Cert.KernelIdeal.κ "c1" .f32 0x3BFCC63F#32 ((4937 / 640000 : ℝ) : EReal)
  ∧ IdealRules.named_const.Statement Cert.KernelIdeal.κ "c3" .f32 0x3CBF381D#32 ((14939 / 640000 : ℝ) : EReal)
  ∧ IdealRules.named_const.Statement Cert.KernelIdeal.κ "c5" .f32 0x3D1F9F56#32 ((24941 / 640000 : ℝ) : EReal)
  ∧ IdealRules.named_const.Statement Cert.KernelIdeal.κ "c7" .f32 0x3D5FA29C#32 ((34943 / 640000 : ℝ) : EReal)
  ∧ IdealRules.named_const.Statement Cert.KernelIdeal.κ "c9" .f32 0x3D8FD2F2#32 ((8989 / 128000 : ℝ) : EReal)
  ∧ IdealRules.named_const.Statement Cert.KernelIdeal.κ "c11" .f32 0x3DAFD495#32 ((54947 / 640000 : ℝ) : EReal)
  ∧ IdealRules.named_const.Statement Cert.KernelIdeal.κ "c13" .f32 0x3DCFD639#32 ((64949 / 640000 : ℝ) : EReal)
  ∧ IdealRules.named_const.Statement Cert.KernelIdeal.κ "c15" .f32 0x3DEFD7DC#32 ((74951 / 640000 : ℝ) : EReal)
  ∧ IdealRules.named_const.Statement Cert.KernelIdeal.κ "c17" .f32 0x3E07ECC0#32 ((84953 / 640000 : ℝ) : EReal)
  ∧ IdealRules.named_const.Statement Cert.KernelIdeal.κ "c19" .f32 0x3E17ED91#32 ((18991 / 128000 : ℝ) : EReal)
  ∧ IdealRules.named_const.Statement Cert.KernelIdeal.κ "c21" .f32 0x3E27EE63#32 ((104957 / 640000 : ℝ) : EReal)
  ∧ IdealRules.named_const.Statement Cert.KernelIdeal.κ "c23" .f32 0x3E37EF35#32 ((114959 / 640000 : ℝ) : EReal)
  ∧ IdealRules.named_const.Statement Cert.KernelIdeal.κ "c25" .f32 0x3E47F007#32 ((124961 / 640000 : ℝ) : EReal)
  ∧ IdealRules.named_const.Statement Cert.KernelIdeal.κ "c27" .f32 0x3E57F0D8#32 ((134963 / 640000 : ℝ) : EReal)
  ∧ IdealRules.named_const.Statement Cert.KernelIdeal.κ "c29" .f32 0x3E67F1AA#32 ((28993 / 128000 : ℝ) : EReal)
  ∧ IdealRules.named_const.Statement Cert.KernelIdeal.κ "c31" .f32 0x3E77F27C#32 ((154967 / 640000 : ℝ) : EReal)
  ∧ IdealRules.named_const.Statement Cert.KernelIdeal.κ "c33" .f32 0x3E83F9A7#32 ((164969 / 640000 : ℝ) : EReal)
  ∧ IdealRules.named_const.Statement Cert.KernelIdeal.κ "c35" .f32 0x3E8BFA10#32 ((174971 / 640000 : ℝ) : EReal)
  ∧ IdealRules.named_const.Statement Cert.KernelIdeal.κ "c37" .f32 0x3E93FA78#32 ((184973 / 640000 : ℝ) : EReal)
  ∧ IdealRules.named_const.Statement Cert.KernelIdeal.κ "c39" .f32 0x3E9BFAE1#32 ((7799 / 25600 : ℝ) : EReal)
  ∧ IdealRules.named_const.Statement Cert.KernelIdeal.κ "c41" .f32 0x3EA3FB4A#32 ((204977 / 640000 : ℝ) : EReal)
  ∧ IdealRules.named_const.Statement Cert.KernelIdeal.κ "c43" .f32 0x3EABFBB3#32 ((214979 / 640000 : ℝ) : EReal)
  ∧ IdealRules.named_const.Statement Cert.KernelIdeal.κ "c45" .f32 0x3EB3FC1C#32 ((224981 / 640000 : ℝ) : EReal)
  ∧ IdealRules.named_const.Statement Cert.KernelIdeal.κ "c47" .f32 0x3EBBFC85#32 ((234983 / 640000 : ℝ) : EReal)
  ∧ IdealRules.named_const.Statement Cert.KernelIdeal.κ "c49" .f32 0x3EC3FCEE#32 ((48997 / 128000 : ℝ) : EReal)
  ∧ IdealRules.named_const.Statement Cert.KernelIdeal.κ "c51" .f32 0x3ECBFD56#32 ((254987 / 640000 : ℝ) : EReal)
  ∧ IdealRules.named_const.Statement Cert.KernelIdeal.κ "c53" .f32 0x3ED3FDBF#32 ((264989 / 640000 : ℝ) : EReal)
  ∧ IdealRules.named_const.Statement Cert.KernelIdeal.κ "c55" .f32 0x3EDBFE28#32 ((274991 / 640000 : ℝ) : EReal)
  ∧ IdealRules.named_const.Statement Cert.KernelIdeal.κ "c57" .f32 0x3EE3FE91#32 ((284993 / 640000 : ℝ) : EReal)
  ∧ IdealRules.named_const.Statement Cert.KernelIdeal.κ "c59" .f32 0x3EEBFEFA#32 ((58999 / 128000 : ℝ) : EReal)
  ∧ IdealRules.named_const.Statement Cert.KernelIdeal.κ "c61" .f32 0x3EF3FF63#32 ((304997 / 640000 : ℝ) : EReal)
  ∧ IdealRules.named_const.Statement Cert.KernelIdeal.κ "c63" .f32 0x3EFBFFCC#32 ((314999 / 640000 : ℝ) : EReal)
  ∧ IdealRules.named_const.Statement Cert.KernelIdeal.κ "c65" .f32 0x3F02001A#32 ((325001 / 640000 : ℝ) : EReal)
  ∧ IdealRules.named_const.Statement Cert.KernelIdeal.κ "c67" .f32 0x3F06004F#32 ((335003 / 640000 : ℝ) : EReal)
  ∧ IdealRules.named_const.Statement Cert.KernelIdeal.κ "c69" .f32 0x3F0A0083#32 ((69001 / 128000 : ℝ) : EReal)
  ∧ IdealRules.named_const.Statement Cert.KernelIdeal.κ "c71" .f32 0x3F0E00B8#32 ((355007 / 640000 : ℝ) : EReal)
  ∧ IdealRules.named_const.Statement Cert.KernelIdeal.κ "c73" .f32 0x3F1200EC#32 ((365009 / 640000 : ℝ) : EReal)
  ∧ IdealRules.named_const.Statement Cert.KernelIdeal.κ "c75" .f32 0x3F160120#32 ((375011 / 640000 : ℝ) : EReal)
  ∧ IdealRules.named_const.Statement Cert.KernelIdeal.κ "c77" .f32 0x3F1A0155#32 ((385013 / 640000 : ℝ) : EReal)
  ∧ IdealRules.named_const.Statement Cert.KernelIdeal.κ "c79" .f32 0x3F1E0189#32 ((79003 / 128000 : ℝ) : EReal)
  ∧ IdealRules.named_const.Statement Cert.KernelIdeal.κ "c81" .f32 0x3F2201BE#32 ((405017 / 640000 : ℝ) : EReal)
  ∧ IdealRules.named_const.Statement Cert.KernelIdeal.κ "c83" .f32 0x3F2601F2#32 ((415019 / 640000 : ℝ) : EReal)
  ∧ IdealRules.named_const.Statement Cert.KernelIdeal.κ "c85" .f32 0x3F2A0227#32 ((425021 / 640000 : ℝ) : EReal)
  ∧ IdealRules.named_const.Statement Cert.KernelIdeal.κ "c87" .f32 0x3F2E025B#32 ((435023 / 640000 : ℝ) : EReal)
  ∧ IdealRules.named_const.Statement Cert.KernelIdeal.κ "c89" .f32 0x3F32028F#32 ((17801 / 25600 : ℝ) : EReal)
  ∧ IdealRules.named_const.Statement Cert.KernelIdeal.κ "c91" .f32 0x3F3602C4#32 ((455027 / 640000 : ℝ) : EReal)
  ∧ IdealRules.named_const.Statement Cert.KernelIdeal.κ "c93" .f32 0x3F3A02F8#32 ((465029 / 640000 : ℝ) : EReal)
  ∧ IdealRules.named_const.Statement Cert.KernelIdeal.κ "c95" .f32 0x3F3E032D#32 ((475031 / 640000 : ℝ) : EReal)
  ∧ IdealRules.named_const.Statement Cert.KernelIdeal.κ "c97" .f32 0x3F420361#32 ((485033 / 640000 : ℝ) : EReal)
  ∧ IdealRules.named_const.Statement Cert.KernelIdeal.κ "c99" .f32 0x3F460396#32 ((99007 / 128000 : ℝ) : EReal)
  ∧ IdealRules.named_const.Statement Cert.KernelIdeal.κ "c101" .f32 0x3F4A03CA#32 ((505037 / 640000 : ℝ) : EReal)
  ∧ IdealRules.named_const.Statement Cert.KernelIdeal.κ "c103" .f32 0x3F4E03FE#32 ((515039 / 640000 : ℝ) : EReal)
  ∧ IdealRules.named_const.Statement Cert.KernelIdeal.κ "c105" .f32 0x3F520433#32 ((525041 / 640000 : ℝ) : EReal)
  ∧ IdealRules.named_const.Statement Cert.KernelIdeal.κ "c107" .f32 0x3F560467#32 ((535043 / 640000 : ℝ) : EReal)
  ∧ IdealRules.named_const.Statement Cert.KernelIdeal.κ "c109" .f32 0x3F5A049C#32 ((109009 / 128000 : ℝ) : EReal)
  ∧ IdealRules.named_const.Statement Cert.KernelIdeal.κ "c111" .f32 0x3F5E04D0#32 ((555047 / 640000 : ℝ) : EReal)
  ∧ IdealRules.named_const.Statement Cert.KernelIdeal.κ "c113" .f32 0x3F620505#32 ((565049 / 640000 : ℝ) : EReal)
  ∧ IdealRules.named_const.Statement Cert.KernelIdeal.κ "c115" .f32 0x3F660539#32 ((575051 / 640000 : ℝ) : EReal)
  ∧ IdealRules.named_const.Statement Cert.KernelIdeal.κ "c117" .f32 0x3F6A056D#32 ((585053 / 640000 : ℝ) : EReal)
  ∧ IdealRules.named_const.Statement Cert.KernelIdeal.κ "c119" .f32 0x3F6E05A2#32 ((119011 / 128000 : ℝ) : EReal)
  ∧ IdealRules.named_const.Statement Cert.KernelIdeal.κ "c121" .f32 0x3F7205D6#32 ((605057 / 640000 : ℝ) : EReal)
  ∧ IdealRules.named_const.Statement Cert.KernelIdeal.κ "c123" .f32 0x3F76060B#32 ((615059 / 640000 : ℝ) : EReal)
  ∧ IdealRules.named_const.Statement Cert.KernelIdeal.κ "c125" .f32 0x3F7A063F#32 ((625061 / 640000 : ℝ) : EReal)
  ∧ IdealRules.named_const.Statement Cert.KernelIdeal.κ "c127" .f32 0x3F7E0674#32 ((635063 / 640000 : ℝ) : EReal)

def algebraic_KernelIdeal_ReferenceIdeal_pre_sg_nonzero [hKernelIdeal : Cert.KernelIdeal.Facts] [hReferenceIdeal : Cert.ReferenceIdeal.Facts] [hPre_sg_nonzero : Cert.Pre_sg_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sg_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sg_nonzero : Cert.Pre_sg_nonzero.Facts),
    quiescent_Kernel (hKernel := hKernel)
    ∧ quiescent_KernelIdeal (hKernelIdeal := hKernelIdeal)
    ∧ quiescent_KernelIdeal_pre_sg_nonzero (hKernelIdeal := hKernelIdeal) (hPre_sg_nonzero := hPre_sg_nonzero)
    ∧ quiescent_ReferenceIdeal (hReferenceIdeal := hReferenceIdeal)
    ∧ quiescent_ReferenceIdeal_pre_sg_nonzero (hReferenceIdeal := hReferenceIdeal) (hPre_sg_nonzero := hPre_sg_nonzero)
    ∧ preserves_Kernel_KernelIdeal
    ∧ algebraic_KernelIdeal_ReferenceIdeal_pre_sg_nonzero (hKernelIdeal := hKernelIdeal) (hReferenceIdeal := hReferenceIdeal) (hPre_sg_nonzero := hPre_sg_nonzero)
-- ==== Pre_sg_nonzero.lean ====
abbrev S16x256x2 : Shape := ⟨3, ![16, 256, 2]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S16x256x2 .f32) (main_arg1 : FVec F S1 .f32) : IVec S_ 1 :=
  let main_cst : FVec F S_ .f32 := constant S_ .f32 0x00000000#32
  let main_v0 : FVec F S1 .f32 := broadcastInDim S1 ![] bcast_S_S1 main_cst
  let main_v1 : IVec S1 1 := cmpf .une main_arg1 main_v0
  let main_c : IVec S_ 1 := constantI S_ 1 1#1
  let main_v2 : IVec S_ 1 := (fun x v => Host.reduce IntOp.andi x v reducesTo_S1_S_d0 h_S_) main_v1 main_c
  main_v2
-- ==== Kernel.lean ====
abbrev S16x256x2 : Shape := ⟨3, ![16, 256, 2]⟩
abbrev S1 : Shape := ⟨1, ![1]⟩
abbrev S4096x2 : Shape := ⟨2, ![4096, 2]⟩
abbrev S4096x16384 : Shape := ⟨2, ![4096, 16384]⟩
abbrev S256x2 : Shape := ⟨2, ![256, 2]⟩
abbrev S3x256x16384 : Shape := ⟨3, ![3, 256, 16384]⟩
abbrev S3x2 : Shape := ⟨2, ![3, 2]⟩
abbrev S256x1 : Shape := ⟨2, ![256, 1]⟩
abbrev S1x128 : Shape := ⟨2, ![1, 128]⟩
abbrev S256x128 : Shape := ⟨2, ![256, 128]⟩
abbrev S1x1 : Shape := ⟨2, ![1, 1]⟩
abbrev S_ : Shape := ⟨0, ![]⟩
abbrev S128x16384 : Shape := ⟨2, ![128, 16384]⟩
abbrev S1x128x16384 : Shape := ⟨3, ![1, 128, 16384]⟩
abbrev S128x128 : Shape := ⟨2, ![128, 128]⟩
abbrev S128x1 : Shape := ⟨2, ![128, 1]⟩
abbrev S1x256x16384 : Shape := ⟨3, ![1, 256, 16384]⟩
abbrev S256x16384 : Shape := ⟨2, ![256, 16384]⟩
abbrev S16x256x16384 : Shape := ⟨3, ![16, 256, 16384]⟩

abbrev nBuf : Space → Nat
  | .hbm => 5
  | .vmem => 3
  | .smem => 1
  | _ => 0

abbrev bufTy : (tb : Table) → Fin (tcTables nBuf tb) → BufTy
  | .hbm, ⟨0, _⟩ => ⟨S16x256x2, .f32⟩
  | .hbm, ⟨1, _⟩ => ⟨S1, .f32⟩
  | .hbm, ⟨2, _⟩ => ⟨S4096x2, .f32⟩
  | .hbm, ⟨3, _⟩ => ⟨S4096x16384, .f32⟩
  | .hbm, ⟨4, _⟩ => ⟨S16x256x16384, .f32⟩
  | .local _ .vmem, ⟨0, _⟩ => ⟨S256x2, .f32⟩
  | .local _ .vmem, ⟨1, _⟩ => ⟨S256x2, .f32⟩
  | .local _ .vmem, ⟨2, _⟩ => ⟨S3x256x16384, .f32⟩
  | .local _ .smem, ⟨0, _⟩ => ⟨S1, .f32⟩
  | _, _ => ⟨S16x256x2, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c3_i32_7 : BitVec 32 := 3#32
  let v42 : BitVec 1 := Scalar.cmpi .sge arg0 c3_i32_7
  let v43 : BitVec 32 := Scalar.extui v42
  let c0_i32 : BitVec 32 := 0#32
  let v44 : BitVec 1 := Scalar.cmpi .ne v43 c0_i32
  v44

def k0_off1 (i : grid0.Coords) : Fin 2 → Nat :=
  let arg0 : BitVec 32 := BitVec.ofNat 32 (i 0).val
  let c3_i32 : BitVec 32 := 3#32
  let v0 : BitVec 32 := Scalar.remsi arg0 c3_i32
  let c0_i32_1046 : BitVec 32 := 0#32
  ![v0.toNat, 0]
def k0_off2 (i : grid0.Coords) (c0_i32_1045 : BitVec 32) : Fin 2 → Nat :=
  let arg0 : BitVec 32 := BitVec.ofNat 32 (i 0).val
  let c3_i32_1043 : BitVec 32 := 3#32
  let v2628 : BitVec 32 := Scalar.subi arg0 c3_i32_1043
  let c256_i32_1044 : BitVec 32 := 256#32
  let v2629 : BitVec 32 := Scalar.muli v2628 c256_i32_1044
  let v2630 : BitVec 32 := Scalar.addi v2629 c0_i32_1045
  let c0_i32_1047 : BitVec 32 := 0#32
  ![v2630.toNat, 0]
def k0_off3 (i : grid0.Coords) : Fin 3 → Nat :=
  let arg0 : BitVec 32 := BitVec.ofNat 32 (i 0).val
  let c3_i32 : BitVec 32 := 3#32
  let v0 : BitVec 32 := Scalar.remsi arg0 c3_i32
  let c0_i32_1048 : BitVec 32 := 0#32
  let c0_i32_1049 : BitVec 32 := 0#32
  ![v0.toNat, 0, 0]
def k0_off4 (i : grid0.Coords) : Fin 2 → Nat :=
  let arg0 : BitVec 32 := BitVec.ofNat 32 (i 0).val
  let c3_i32 : BitVec 32 := 3#32
  let v0 : BitVec 32 := Scalar.remsi arg0 c3_i32
  let c1_i32_1053 : BitVec 32 := 1#32
  ![v0.toNat, 1]
def k0_off5 (i : grid0.Coords) : Fin 3 → Nat :=
  let arg0 : BitVec 32 := BitVec.ofNat 32 (i 0).val
  let c3_i32 : BitVec 32 := 3#32
  let v0 : BitVec 32 := Scalar.remsi arg0 c3_i32
  let c128_i32_1055 : BitVec 32 := 128#32
  let c0_i32_1056 : BitVec 32 := 0#32
  ![v0.toNat, 128, 0]
def k0_off6 (i : grid0.Coords) : Fin 3 → Nat :=
  let arg0 : BitVec 32 := BitVec.ofNat 32 (i 0).val
  let c3_i32 : BitVec 32 := 3#32
  let v0 : BitVec 32 := Scalar.remsi arg0 c3_i32
  let c0_i32_8 : BitVec 32 := 0#32
  let c0_i32_9 : BitVec 32 := 0#32
  ![v0.toNat, 0, 0]
def k0_off7 (i : grid0.Coords) : Fin 2 → Nat :=
  let arg0 : BitVec 32 := BitVec.ofNat 32 (i 0).val
  let c3_i32 : BitVec 32 := 3#32
  let v0 : BitVec 32 := Scalar.remsi arg0 c3_i32
  let c0_i32_458 : BitVec 32 := 0#32
  ![v0.toNat, 0]
def k0_off8 (i : grid0.Coords) (c0_i32_457 : BitVec 32) : Fin 2 → Nat :=
  let arg0 : BitVec 32 := BitVec.ofNat 32 (i 0).val
  let c256_i32 : BitVec 32 := 256#32
  let v1328 : BitVec 32 := Scalar.muli arg0 c256_i32
  let v1329 : BitVec 32 := Scalar.addi v1328 c0_i32_457
  let c0_i32_459 : BitVec 32 := 0#32
  ![v1329.toNat, 0]
def k0_off9 (i : grid0.Coords) : Fin 3 → Nat :=
  let arg0 : BitVec 32 := BitVec.ofNat 32 (i 0).val
  let c3_i32 : BitVec 32 := 3#32
  let v0 : BitVec 32 := Scalar.remsi arg0 c3_i32
  let c0_i32_460 : BitVec 32 := 0#32
  let c0_i32_461 : BitVec 32 := 0#32
  ![v0.toNat, 0, 0]
def k0_off10 (i : grid0.Coords) : Fin 2 → Nat :=
  let arg0 : BitVec 32 := BitVec.ofNat 32 (i 0).val
  let c3_i32 : BitVec 32 := 3#32
  let v0 : BitVec 32 := Scalar.remsi arg0 c3_i32
  let c1_i32 : BitVec 32 := 1#32
  ![v0.toNat, 1]
def k0_off11 (i : grid0.Coords) : Fin 3 → Nat :=
  let arg0 : BitVec 32 := BitVec.ofNat 32 (i 0).val
  let c3_i32 : BitVec 32 := 3#32
  let v0 : BitVec 32 := Scalar.remsi arg0 c3_i32
  let c128_i32_1040 : BitVec 32 := 128#32
  let c0_i32_1041 : BitVec 32 := 0#32
  ![v0.toNat, 128, 0]
def k0_cond2 (i : grid0.Coords) : BitVec 1 :=
  let arg0 : BitVec 32 := BitVec.ofNat 32 (i 0).val
  let c15_i32 : BitVec 32 := 15#32
  let v2625 : BitVec 1 := Scalar.cmpi .eq arg0 c15_i32
  let v2626 : BitVec 32 := Scalar.extui v2625
  let c0_i32_1042 : BitVec 32 := 0#32
  let v2627 : BitVec 1 := Scalar.cmpi .ne v2626 c0_i32_1042
  v2627

def k0_off12 (c13_i32 : BitVec 32) : Fin 2 → Nat :=
  let c3_i32_1043 : BitVec 32 := 3#32
  let v2628 : BitVec 32 := Scalar.remsi c13_i32 c3_i32_1043
  let c0_i32_1044 : BitVec 32 := 0#32
  ![v2628.toNat, 0]
def k0_off13 (c13_i32 : BitVec 32) : Fin 3 → Nat :=
  let c3_i32_1043 : BitVec 32 := 3#32
  let v2628 : BitVec 32 := Scalar.remsi c13_i32 c3_i32_1043
  let c0_i32_1046 : BitVec 32 := 0#32
  let c0_i32_1047 : BitVec 32 := 0#32
  ![v2628.toNat, 0, 0]
def k0_off14 (c13_i32 : BitVec 32) : Fin 2 → Nat :=
  let c3_i32_1043 : BitVec 32 := 3#32
  let v2628 : BitVec 32 := Scalar.remsi c13_i32 c3_i32_1043
  let c1_i32_1048 : BitVec 32 := 1#32
  ![v2628.toNat, 1]
def k0_off15 (c13_i32 : BitVec 32) : Fin 3 → Nat :=
  let c3_i32_1043 : BitVec 32 := 3#32
  let v2628 : BitVec 32 := Scalar.remsi c13_i32 c3_i32_1043
  let c128_i32_1050 : BitVec 32 := 128#32
  let c0_i32_1051 : BitVec 32 := 0#32
  ![v2628.toNat, 128, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
abbrev S16x256x2 : Shape := ⟨3, ![16, 256, 2]⟩
abbrev S1 : Shape := ⟨1, ![1]⟩
abbrev S4096x2 : Shape := ⟨2, ![4096, 2]⟩
abbrev S4096x16384 : Shape := ⟨2, ![4096, 16384]⟩
abbrev S256x2 : Shape := ⟨2, ![256, 2]⟩
abbrev S3x256x16384 : Shape := ⟨3, ![3, 256, 16384]⟩
abbrev S3x2 : Shape := ⟨2, ![3, 2]⟩
abbrev S256x1 : Shape := ⟨2, ![256, 1]⟩
abbrev S1x128 : Shape := ⟨2, ![1, 128]⟩
abbrev S256x128 : Shape := ⟨2, ![256, 128]⟩
abbrev S1x1 : Shape := ⟨2, ![1, 1]⟩
abbrev S_ : Shape := ⟨0, ![]⟩
abbrev S128x16384 : Shape := ⟨2, ![128, 16384]⟩
abbrev S1x128x16384 : Shape := ⟨3, ![1, 128, 16384]⟩
abbrev S128x128 : Shape := ⟨2, ![128, 128]⟩
abbrev S128x1 : Shape := ⟨2, ![128, 1]⟩
abbrev S1x256x16384 : Shape := ⟨3, ![1, 256, 16384]⟩
abbrev S256x16384 : Shape := ⟨2, ![256, 16384]⟩
abbrev S16x256x16384 : Shape := ⟨3, ![16, 256, 16384]⟩

abbrev nBuf : Space → Nat
  | .hbm => 5
  | .vmem => 3
  | .smem => 1
  | _ => 0

abbrev bufTy : (tb : Table) → Fin (tcTables nBuf tb) → BufTy
  | .hbm, ⟨0, _⟩ => ⟨S16x256x2, .f32⟩
  | .hbm, ⟨1, _⟩ => ⟨S1, .f32⟩
  | .hbm, ⟨2, _⟩ => ⟨S4096x2, .f32⟩
  | .hbm, ⟨3, _⟩ => ⟨S4096x16384, .f32⟩
  | .hbm, ⟨4, _⟩ => ⟨S16x256x16384, .f32⟩
  | .local _ .vmem, ⟨0, _⟩ => ⟨S256x2, .f32⟩
  | .local _ .vmem, ⟨1, _⟩ => ⟨S256x2, .f32⟩
  | .local _ .vmem, ⟨2, _⟩ => ⟨S3x256x16384, .f32⟩
  | .local _ .smem, ⟨0, _⟩ => ⟨S1, .f32⟩
  | _, _ => ⟨S16x256x2, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F] [Named F]

def κ : String → Option EReal := fun
  | "c1" => some ((4937 / 640000 : ℝ) : EReal)
  | "c101" => some ((505037 / 640000 : ℝ) : EReal)
  | "c103" => some ((515039 / 640000 : ℝ) : EReal)
  | "c105" => some ((525041 / 640000 : ℝ) : EReal)
  | "c107" => some ((535043 / 640000 : ℝ) : EReal)
  | "c109" => some ((109009 / 128000 : ℝ) : EReal)
  | "c11" => some ((54947 / 640000 : ℝ) : EReal)
  | "c111" => some ((555047 / 640000 : ℝ) : EReal)
  | "c113" => some ((565049 / 640000 : ℝ) : EReal)
  | "c115" => some ((575051 / 640000 : ℝ) : EReal)
  | "c117" => some ((585053 / 640000 : ℝ) : EReal)
  | "c119" => some ((119011 / 128000 : ℝ) : EReal)
  | "c121" => some ((605057 / 640000 : ℝ) : EReal)
  | "c123" => some ((615059 / 640000 : ℝ) : EReal)
  | "c125" => some ((625061 / 640000 : ℝ) : EReal)
  | "c127" => some ((635063 / 640000 : ℝ) : EReal)
  | "c13" => some ((64949 / 640000 : ℝ) : EReal)
  | "c15" => some ((74951 / 640000 : ℝ) : EReal)
  | "c17" => some ((84953 / 640000 : ℝ) : EReal)
  | "c19" => some ((18991 / 128000 : ℝ) : EReal)
  | "c21" => some ((104957 / 640000 : ℝ) : EReal)
  | "c23" => some ((114959 / 640000 : ℝ) : EReal)
  | "c25" => some ((124961 / 640000 : ℝ) : EReal)
  | "c27" => some ((134963 / 640000 : ℝ) : EReal)
  | "c29" => some ((28993 / 128000 : ℝ) : EReal)
  | "c3" => some ((14939 / 640000 : ℝ) : EReal)
  | "c31" => some ((154967 / 640000 : ℝ) : EReal)
  | "c33" => some ((164969 / 640000 : ℝ) : EReal)
  | "c35" => some ((174971 / 640000 : ℝ) : EReal)
  | "c37" => some ((184973 / 640000 : ℝ) : EReal)
  | "c39" => some ((7799 / 25600 : ℝ) : EReal)
  | "c41" => some ((204977 / 640000 : ℝ) : EReal)
  | "c43" => some ((214979 / 640000 : ℝ) : EReal)
  | "c45" => some ((224981 / 640000 : ℝ) : EReal)
  | "c47" => some ((234983 / 640000 : ℝ) : EReal)
  | "c49" => some ((48997 / 128000 : ℝ) : EReal)
  | "c5" => some ((24941 / 640000 : ℝ) : EReal)
  | "c51" => some ((254987 / 640000 : ℝ) : EReal)
  | "c53" => some ((264989 / 640000 : ℝ) : EReal)
  | "c55" => some ((274991 / 640000 : ℝ) : EReal)
  | "c57" => some ((284993 / 640000 : ℝ) : EReal)
  | "c59" => some ((58999 / 128000 : ℝ) : EReal)
  | "c61" => some ((304997 / 640000 : ℝ) : EReal)
  | "c63" => some ((314999 / 640000 : ℝ) : EReal)
  | "c65" => some ((325001 / 640000 : ℝ) : EReal)
  | "c67" => some ((335003 / 640000 : ℝ) : EReal)
  | "c69" => some ((69001 / 128000 : ℝ) : EReal)
  | "c7" => some ((34943 / 640000 : ℝ) : EReal)
  | "c71" => some ((355007 / 640000 : ℝ) : EReal)
  | "c73" => some ((365009 / 640000 : ℝ) : EReal)
  | "c75" => some ((375011 / 640000 : ℝ) : EReal)
  | "c77" => some ((385013 / 640000 : ℝ) : EReal)
  | "c79" => some ((79003 / 128000 : ℝ) : EReal)
  | "c81" => some ((405017 / 640000 : ℝ) : EReal)
  | "c83" => some ((415019 / 640000 : ℝ) : EReal)
  | "c85" => some ((425021 / 640000 : ℝ) : EReal)
  | "c87" => some ((435023 / 640000 : ℝ) : EReal)
  | "c89" => some ((17801 / 25600 : ℝ) : EReal)
  | "c9" => some ((8989 / 128000 : ℝ) : EReal)
  | "c91" => some ((455027 / 640000 : ℝ) : EReal)
  | "c93" => some ((465029 / 640000 : ℝ) : EReal)
  | "c95" => some ((475031 / 640000 : ℝ) : EReal)
  | "c97" => some ((485033 / 640000 : ℝ) : EReal)
  | "c99" => some ((99007 / 128000 : ℝ) : EReal)
  | "lo" => some ((-1 / 10000 : ℝ) : EReal)
  | "step" => some ((5001 / 640000 : ℝ) : EReal)
  | _ => none

abbrev grid0 : Pipeline.Grid := ⟨1, ![16], ![false]⟩

def k0_cond1 (i : grid0.Coords) : BitVec 1 :=
  let arg0 : BitVec 32 := BitVec.ofNat 32 (i 0).val
  let c3_i32_7 : BitVec 32 := 3#32
  let v42 : BitVec 1 := Scalar.cmpi .sge arg0 c3_i32_7
  let v43 : BitVec 32 := Scalar.extui v42
  let c0_i32 : BitVec 32 := 0#32
  let v44 : BitVec 1 := Scalar.cmpi .ne v43 c0_i32
  v44

def k0_off1 (i : grid0.Coords) : Fin 2 → Nat :=
  let arg0 : BitVec 32 := BitVec.ofNat 32 (i 0).val
  let c3_i32 : BitVec 32 := 3#32
  let v0 : BitVec 32 := Scalar.remsi arg0 c3_i32
  let c0_i32_1046 : BitVec 32 := 0#32
  ![v0.toNat, 0]
def k0_off2 (i : grid0.Coords) (c0_i32_1045 : BitVec 32) : Fin 2 → Nat :=
  let arg0 : BitVec 32 := BitVec.ofNat 32 (i 0).val
  let c3_i32_1043 : BitVec 32 := 3#32
  let v2628 : BitVec 32 := Scalar.subi arg0 c3_i32_1043
  let c256_i32_1044 : BitVec 32 := 256#32
  let v2629 : BitVec 32 := Scalar.muli v2628 c256_i32_1044
  let v2630 : BitVec 32 := Scalar.addi v2629 c0_i32_1045
  let c0_i32_1047 : BitVec 32 := 0#32
  ![v2630.toNat, 0]
def k0_off3 (i : grid0.Coords) : Fin 3 → Nat :=
  let arg0 : BitVec 32 := BitVec.ofNat 32 (i 0).val
  let c3_i32 : BitVec 32 := 3#32
  let v0 : BitVec 32 := Scalar.remsi arg0 c3_i32
  let c0_i32_1048 : BitVec 32 := 0#32
  let c0_i32_1049 : BitVec 32 := 0#32
  ![v0.toNat, 0, 0]
def k0_off4 (i : grid0.Coords) : Fin 2 → Nat :=
  let arg0 : BitVec 32 := BitVec.ofNat 32 (i 0).val
  let c3_i32 : BitVec 32 := 3#32
  let v0 : BitVec 32 := Scalar.remsi arg0 c3_i32
  let c1_i32_1053 : BitVec 32 := 1#32
  ![v0.toNat, 1]
def k0_off5 (i : grid0.Coords) : Fin 3 → Nat :=
  let arg0 : BitVec 32 := BitVec.ofNat 32 (i 0).val
  let c3_i32 : BitVec 32 := 3#32
  let v0 : BitVec 32 := Scalar.remsi arg0 c3_i32
  let c128_i32_1055 : BitVec 32 := 128#32
  let c0_i32_1056 : BitVec 32 := 0#32
  ![v0.toNat, 128, 0]
def k0_off6 (i : grid0.Coords) : Fin 3 → Nat :=
  let arg0 : BitVec 32 := BitVec.ofNat 32 (i 0).val
  let c3_i32 : BitVec 32 := 3#32
  let v0 : BitVec 32 := Scalar.remsi arg0 c3_i32
  let c0_i32_8 : BitVec 32 := 0#32
  let c0_i32_9 : BitVec 32 := 0#32
  ![v0.toNat, 0, 0]
def k0_off7 (i : grid0.Coords) : Fin 2 → Nat :=
  let arg0 : BitVec 32 := BitVec.ofNat 32 (i 0).val
  let c3_i32 : BitVec 32 := 3#32
  let v0 : BitVec 32 := Scalar.remsi arg0 c3_i32
  let c0_i32_458 : BitVec 32 := 0#32
  ![v0.toNat, 0]
def k0_off8 (i : grid0.Coords) (c0_i32_457 : BitVec 32) : Fin 2 → Nat :=
  let arg0 : BitVec 32 := BitVec.ofNat 32 (i 0).val
  let c256_i32 : BitVec 32 := 256#32
  let v1328 : BitVec 32 := Scalar.muli arg0 c256_i32
  let v1329 : BitVec 32 := Scalar.addi v1328 c0_i32_457
  let c0_i32_459 : BitVec 32 := 0#32
  ![v1329.toNat, 0]
def k0_off9 (i : grid0.Coords) : Fin 3 → Nat :=
  let arg0 : BitVec 32 := BitVec.ofNat 32 (i 0).val
  let c3_i32 : BitVec 32 := 3#32
  let v0 : BitVec 32 := Scalar.remsi arg0 c3_i32
  let c0_i32_460 : BitVec 32 := 0#32
  let c0_i32_461 : BitVec 32 := 0#32
  ![v0.toNat, 0, 0]
def k0_off10 (i : grid0.Coords) : Fin 2 → Nat :=
  let arg0 : BitVec 32 := BitVec.ofNat 32 (i 0).val
  let c3_i32 : BitVec 32 := 3#32
  let v0 : BitVec 32 := Scalar.remsi arg0 c3_i32
  let c1_i32 : BitVec 32 := 1#32
  ![v0.toNat, 1]
def k0_off11 (i : grid0.Coords) : Fin 3 → Nat :=
  let arg0 : BitVec 32 := BitVec.ofNat 32 (i 0).val
  let c3_i32 : BitVec 32 := 3#32
  let v0 : BitVec 32 := Scalar.remsi arg0 c3_i32
  let c128_i32_1040 : BitVec 32 := 128#32
  let c0_i32_1041 : BitVec 32 := 0#32
  ![v0.toNat, 128, 0]
def k0_cond2 (i : grid0.Coords) : BitVec 1 :=
  let arg0 : BitVec 32 := BitVec.ofNat 32 (i 0).val
  let c15_i32 : BitVec 32 := 15#32
  let v2625 : BitVec 1 := Scalar.cmpi .eq arg0 c15_i32
  let v2626 : BitVec 32 := Scalar.extui v2625
  let c0_i32_1042 : BitVec 32 := 0#32
  let v2627 : BitVec 1 := Scalar.cmpi .ne v2626 c0_i32_1042
  v2627

def k0_off12 (c13_i32 : BitVec 32) : Fin 2 → Nat :=
  let c3_i32_1043 : BitVec 32 := 3#32
  let v2628 : BitVec 32 := Scalar.remsi c13_i32 c3_i32_1043
  let c0_i32_1044 : BitVec 32 := 0#32
  ![v2628.toNat, 0]
def k0_off13 (c13_i32 : BitVec 32) : Fin 3 → Nat :=
  let c3_i32_1043 : BitVec 32 := 3#32
  let v2628 : BitVec 32 := Scalar.remsi c13_i32 c3_i32_1043
  let c0_i32_1046 : BitVec 32 := 0#32
  let c0_i32_1047 : BitVec 32 := 0#32
  ![v2628.toNat, 0, 0]
def k0_off14 (c13_i32 : BitVec 32) : Fin 2 → Nat :=
  let c3_i32_1043 : BitVec 32 := 3#32
  let v2628 : BitVec 32 := Scalar.remsi c13_i32 c3_i32_1043
  let c1_i32_1048 : BitVec 32 := 1#32
  ![v2628.toNat, 1]
def k0_off15 (c13_i32 : BitVec 32) : Fin 3 → Nat :=
  let c3_i32_1043 : BitVec 32 := 3#32
  let v2628 : BitVec 32 := Scalar.remsi c13_i32 c3_i32_1043
  let c128_i32_1050 : BitVec 32 := 128#32
  let c0_i32_1051 : BitVec 32 := 0#32
  ![v2628.toNat, 128, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x256x2 : Shape := ⟨3, ![16, 256, 2]⟩
abbrev S1 : Shape := ⟨1, ![1]⟩
abbrev S2x2 : Shape := ⟨2, ![2, 2]⟩
abbrev S128 : Shape := ⟨1, ![128]⟩
abbrev S_ : Shape := ⟨0, ![]⟩
abbrev S128x128 : Shape := ⟨2, ![128, 128]⟩
abbrev S1x128x128 : Shape := ⟨3, ![1, 128, 128]⟩
abbrev S2x128x128 : Shape := ⟨3, ![2, 128, 128]⟩
abbrev S16x256x2x1x1 : Shape := ⟨5, ![16, 256, 2, 1, 1]⟩
abbrev S1x1x2x128x128 : Shape := ⟨5, ![1, 1, 2, 128, 128]⟩
abbrev S16x256x2x128x128 : Shape := ⟨5, ![16, 256, 2, 128, 128]⟩
abbrev S16x256x128x128 : Shape := ⟨4, ![16, 256, 128, 128]⟩
abbrev S16x256x16384 : Shape := ⟨3, ![16, 256, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16x256x2, .f32⟩
  | .hbm, ⟨1, _⟩ => ⟨S1, .f32⟩
  | .hbm, ⟨2, _⟩ => ⟨S2x2, .f32⟩
  | .hbm, ⟨3, _⟩ => ⟨S16x256x2, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S1x128x128, .f32⟩
  | .hbm, ⟨28, _⟩ => ⟨S2x128x128, .f32⟩
  | .hbm, ⟨29, _⟩ => ⟨S_, .f32⟩
  | .hbm, ⟨30, _⟩ => ⟨S16x256x2x1x1, .f32⟩
  | .hbm, ⟨31, _⟩ => ⟨S1x1x2x128x128, .f32⟩
  | .hbm, ⟨32, _⟩ => ⟨S16x256x2x128x128, .f32⟩
  | .hbm, ⟨33, _⟩ => ⟨S16x256x2x128x128, .f32⟩
  | .hbm, ⟨34, _⟩ => ⟨S16x256x2x128x128, .f32⟩
  | .hbm, ⟨35, _⟩ => ⟨S16x256x2x128x128, .f32⟩
  | .hbm, ⟨36, _⟩ => ⟨S16x256x2x128x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x256x2x128x128, .f32⟩
  | .hbm, ⟨41, _⟩ => ⟨S16x256x2x128x128, .f32⟩
  | .hbm, ⟨42, _⟩ => ⟨S_, .f32⟩
  | .hbm, ⟨43, _⟩ => ⟨S16x256x128x128, .f32⟩
  | .hbm, ⟨44, _⟩ => ⟨S16x256x128x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x256x128x128, .f32⟩
  | .hbm, ⟨49, _⟩ => ⟨S16x256x128x128, .f32⟩
  | .hbm, ⟨50, _⟩ => ⟨S16x256x16384, .f32⟩
  | _, _ => ⟨S16x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.Tiles.lean ====
/-
  What one grid point computes, as plain vectors.

  A grid point takes 256 pairs (x, y) and the width s, and fills a 256 by 16384 block: 128 tiles of 128 columns, in two
  halves of 128 rows. Tile j holds, at row r and column c, the Gaussian of x against column c times the Gaussian of y - x
  against grid line j. The even tiles take the second factor from a table; the odd ones compute it from the grid line,
  which is a named constant.
-/
module

public import proofs.«01_k».proof.Proof.Gen.KernelIdeal.Skeleton
public import Idealize.ShloMosaic.Lib.Pipeline.FrameBody
public import Idealize.ShloMosaic.Lib.Pipeline.Value
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F] [Named F]

/-- The grid lines with an odd index, each by its name and its printed bits. -/
def oddTab : List (String × BitVec 32) :=
  [("c1", 0x3BFCC63F#32), ("c3", 0x3CBF381D#32), ("c5", 0x3D1F9F56#32), ("c7", 0x3D5FA29C#32), ("c9", 0x3D8FD2F2#32),
   ("c11", 0x3DAFD495#32), ("c13", 0x3DCFD639#32), ("c15", 0x3DEFD7DC#32), ("c17", 0x3E07ECC0#32), ("c19", 0x3E17ED91#32),
   ("c21", 0x3E27EE63#32), ("c23", 0x3E37EF35#32), ("c25", 0x3E47F007#32), ("c27", 0x3E57F0D8#32), ("c29", 0x3E67F1AA#32),
   ("c31", 0x3E77F27C#32), ("c33", 0x3E83F9A7#32), ("c35", 0x3E8BFA10#32), ("c37", 0x3E93FA78#32), ("c39", 0x3E9BFAE1#32),
   ("c41", 0x3EA3FB4A#32), ("c43", 0x3EABFBB3#32), ("c45", 0x3EB3FC1C#32), ("c47", 0x3EBBFC85#32), ("c49", 0x3EC3FCEE#32),
   ("c51", 0x3ECBFD56#32), ("c53", 0x3ED3FDBF#32), ("c55", 0x3EDBFE28#32), ("c57", 0x3EE3FE91#32), ("c59", 0x3EEBFEFA#32),
   ("c61", 0x3EF3FF63#32), ("c63", 0x3EFBFFCC#32), ("c65", 0x3F02001A#32), ("c67", 0x3F06004F#32), ("c69", 0x3F0A0083#32),
   ("c71", 0x3F0E00B8#32), ("c73", 0x3F1200EC#32), ("c75", 0x3F160120#32), ("c77", 0x3F1A0155#32), ("c79", 0x3F1E0189#32),
   ("c81", 0x3F2201BE#32), ("c83", 0x3F2601F2#32), ("c85", 0x3F2A0227#32), ("c87", 0x3F2E025B#32), ("c89", 0x3F32028F#32),
   ("c91", 0x3F3602C4#32), ("c93", 0x3F3A02F8#32), ("c95", 0x3F3E032D#32), ("c97", 0x3F420361#32), ("c99", 0x3F460396#32),
   ("c101", 0x3F4A03CA#32), ("c103", 0x3F4E03FE#32), ("c105", 0x3F520433#32), ("c107", 0x3F560467#32), ("c109", 0x3F5A049C#32),
   ("c111", 0x3F5E04D0#32), ("c113", 0x3F620505#32), ("c115", 0x3F660539#32), ("c117", 0x3F6A056D#32), ("c119", 0x3F6E05A2#32),
   ("c121", 0x3F7205D6#32), ("c123", 0x3F76060B#32), ("c125", 0x3F7A063F#32), ("c127", 0x3F7E0674#32)]

/-- Grid line 2k + 1. -/
def oddLine (k : ℕ) : F .f32 := Named.named κ (oddTab.getD k ("", 0#32)).1 (oddTab.getD k ("", 0#32)).2

/-- The x column of a block of pairs. -/
def colX (b : Vec F S256x2 .f32) : Vec F S256x1 .f32 :=
  View.ld b (Rect.unit (s := S256x2) ![0, 0] S256x1.size inb_S256x2_S256x1_0_0)

/-- The y column of a block of pairs. -/
def colY (b : Vec F S256x2 .f32) : Vec F S256x1 .f32 :=
  View.ld b (Rect.unit (s := S256x2) ![0, 1] S256x1.size inb_S256x2_S256x1_0_1)

/-- The normalised Gaussian of x against every grid line. -/
def gxTab (s : F .f32) (b : Vec F S256x2 .f32) : FVec F S256x128 .f32 := k0_pay7 s (colX b)

/-- The Gaussian of y - x against every grid line. -/
def gyTab (s : F .f32) (b : Vec F S256x2 .f32) : FVec F S256x128 .f32 := k0_pay8 s (colX b) (colY b)

/-- y - x, the same in every column. -/
def persTab (b : Vec F S256x2 .f32) : FVec F S256x128 .f32 := k0_pay9 (colX b) (colY b)

/-- The factor of the square in the exponent: -1/2 over the square of s. -/
def expo (s : F .f32) : F .f32 := k0_pay3 s

theorem slices_half (h : Fin 2) : S256x128.Slices ![128 * h.val, 0] S128x128 := by
  revert h; decide

theorem slices_col (k : ℕ) (hk : k < 64) : S128x128.Slices ![0, 2 * k] S128x1 :=
  (by decide : ∀ k : Fin 64, S128x128.Slices ![0, 2 * k.val] S128x1) ⟨k, hk⟩

theorem broadcasts_col : S128x1.Broadcasts S128x128 := by decide

theorem casts_tile : S128x128.ShapeCasts S128x128 := by decide

/-- Half h of a table, 128 rows. -/
def cut (h : Fin 2) (v : FVec F S256x128 .f32) : FVec F S128x128 .f32 :=
  extractStridedSlice S128x128 ![128 * h.val, 0] v (slices_half h)

/-- Tile 2k. -/
def tileE (gx gy : FVec F S128x128 .f32) (k : ℕ) (hk : k < 64) : FVec F S128x128 .f32 :=
  shapeCast S128x128 (mulf gx (broadcastTo S128x128 (extractStridedSlice S128x1 ![0, 2 * k] gy (slices_col k hk)) broadcasts_col)) casts_tile

/-- Tile 2k + 1. -/
def tileO (gx p : FVec F S128x128 .f32) (e : F .f32) (k : ℕ) : FVec F S128x128 .f32 :=
  shapeCast S128x128 (mulf gx (exp (mulf (mulf (subf p (broadcast S128x128 (oddLine k))) (subf p (broadcast S128x128 (oddLine k))))
    (broadcast S128x128 e)))) casts_tile

theorem inb_tile (h : Fin 2) (j : ℕ) (hj : j < 128) :
    ∀ a, (![128 * h.val, 128 * j] : Fin 2 → ℕ) a + S128x128.size a ≤ S256x16384.size a := by
  have := h.isLt
  intro a; fin_cases a
  · show 128 * h.val + 128 ≤ 256; omega
  · show 128 * j + 128 ≤ 16384; omega

/-- The rectangle of tile j in half h. -/
def tileRect (h : Fin 2) (j : ℕ) (hj : j < 128) : Rect S256x16384 :=
  Rect.unit (s := S256x16384) ![128 * h.val, 128 * j] S128x128.size (inb_tile h j hj)

/-- The stores of half h, last first: its first 2n tiles. -/
def pieces (h : Fin 2) (gx gy p : FVec F S128x128 .f32) (e : F .f32) :
    (n : ℕ) → n ≤ 64 → List (View.Piece (Elt F) S256x16384 .f32)
  | 0, _ => []
  | n + 1, hn =>
    ⟨tileRect h (2 * n + 1) (by omega), tileO gx p e n⟩ ::
    ⟨tileRect h (2 * n) (by omega), tileE gx gy n (by omega)⟩ :: pieces h gx gy p e n (by omega)

/-- The stores of half h of the block of pairs b. -/
def halfPieces (h : Fin 2) (s : F .f32) (b : Vec F S256x2 .f32) : List (View.Piece (Elt F) S256x16384 .f32) :=
  pieces h (cut h (gxTab s b)) (cut h (gyTab s b)) (cut h (persTab b)) (expo s) 64 (le_refl 64)

/-- The tile with number j of half h. -/
def tileAt (h : Fin 2) (s : F .f32) (b : Vec F S256x2 .f32) (j : ℕ) (hj : j < 128) : FVec F S128x128 .f32 :=
  if j % 2 = 0 then tileE (cut h (gxTab s b)) (cut h (gyTab s b)) (j / 2) (by omega)
  else tileO (cut h (gxTab s b)) (cut h (persTab b)) (expo s) (j / 2)

/-- The block a grid point computes. -/
def blk (s : F .f32) (b : Vec F S256x2 .f32) : Vec F S256x16384 .f32 := fun y =>
  tileAt ⟨(y 0).val / 128, by have : (y 0).val < 256 := (y 0).isLt; omega⟩ s b ((y 1).val / 128)
    (by have : (y 1).val < 16384 := (y 1).isLt; omega)
    (ix2 (⟨(y 0).val % 128, by omega⟩ : Fin 128) (⟨(y 1).val % 128, by omega⟩ : Fin 128))

/-- The block, read inside tile j of half h, is that tile. -/
theorem blk_tile (h : Fin 2) (s : F .f32) (b : Vec F S256x2 .f32) (j : ℕ) (hj : j < 128) (x : (tileRect h j hj).shape.Idx) :
    blk s b ((tileRect h j hj).emb x) = tileAt h s b j hj x := by
  have h0 : ((tileRect h j hj).emb x 0).val = 128 * h.val + (x 0).val := by
    show 128 * h.val + 1 * (x 0).val = _; omega
  have h1 : ((tileRect h j hj).emb x 1).val = 128 * j + (x 1).val := by
    show 128 * j + 1 * (x 1).val = _; omega
  have x0 : (x 0).val < 128 := (x 0).isLt
  have x1 : (x 1).val < 128 := (x 1).isLt
  unfold blk
  have e0 : (⟨((tileRect h j hj).emb x 0).val / 128, by rw [h0]; omega⟩ : Fin 2) = h := Fin.ext (by show _ / 128 = _; rw [h0]; omega)
  have e1 : ((tileRect h j hj).emb x 1).val / 128 = j := by rw [h1]; omega
  have ex : (ix2 (⟨((tileRect h j hj).emb x 0).val % 128, by omega⟩ : Fin 128) (⟨((tileRect h j hj).emb x 1).val % 128, by omega⟩ : Fin 128) : S128x128.Idx) = x := by
    funext a; fin_cases a
    · exact Fin.ext (by show _ % 128 = (x 0).val; rw [h0]; omega)
    · exact Fin.ext (by show _ % 128 = (x 1).val; rw [h1]; omega)
  rw [ex]
  congr 1

/-- Every store of a half writes the block's own values. -/
theorem pieces_agree (h : Fin 2) (s : F .f32) (b : Vec F S256x2 .f32) : ∀ (n : ℕ) (hn : n ≤ 64),
    ∀ p ∈ pieces h (cut h (gxTab s b)) (cut h (gyTab s b)) (cut h (persTab b)) (expo s) n hn,
      ∀ x : p.1.shape.Idx, p.2 x = blk s b (p.1.emb x)
  | 0, _, p, hp => absurd hp List.not_mem_nil
  | n + 1, hn, p, hp => by
    rcases List.mem_cons.mp hp with rfl | hp
    · intro x
      rw [blk_tile h s b (2 * n + 1) (by omega) x]
      unfold tileAt
      rw [if_neg (by omega)]
      have : (2 * n + 1) / 2 = n := by omega
      simp only [this]
    · rcases List.mem_cons.mp hp with rfl | hp
      · intro x
        rw [blk_tile h s b (2 * n) (by omega) x]
        unfold tileAt
        rw [if_pos (by omega)]
        have : (2 * n) / 2 = n := by omega
        simp only [this]
      · exact pieces_agree h s b n (by omega) p hp

/-- The first 2n tiles of a half reach every element of its first 256n columns. -/
theorem pieces_cover (h : Fin 2) (gx gy p : FVec F S128x128 .f32) (e : F .f32) (y : S256x16384.Idx)
    (hy : (y 0).val / 128 = h.val) : ∀ (n : ℕ) (hn : n ≤ 64), (y 1).val < 256 * n →
    ∃ q ∈ pieces h gx gy p e n hn, y ∈ q.1.set
  | 0, _, hc => by omega
  | n + 1, hn, hc => by
    have mem (j : ℕ) (hj : j < 128) (hyj : (y 1).val / 128 = j) : y ∈ (tileRect h j hj).set := by
      have y0 : (y 0).val < 256 := (y 0).isLt
      refine Rect.mem_set_unit.mpr fun a => ?_
      fin_cases a
      · show 128 * h.val ≤ (y 0).val ∧ (y 0).val < 128 * h.val + 128; omega
      · show 128 * j ≤ (y 1).val ∧ (y 1).val < 128 * j + 128; omega
    by_cases h1 : (y 1).val / 128 = 2 * n + 1
    · exact ⟨_, List.mem_cons_self, mem (2 * n + 1) (by omega) h1⟩
    · by_cases h2 : (y 1).val / 128 = 2 * n
      · exact ⟨_, List.mem_cons_of_mem _ List.mem_cons_self, mem (2 * n) (by omega) h2⟩
      · obtain ⟨q, hq, hyq⟩ := pieces_cover h gx gy p e y hy n (by omega) (by omega)
        exact ⟨q, List.mem_cons_of_mem _ (List.mem_cons_of_mem _ hq), hyq⟩

end Cert.KernelIdeal.Hand
end
-- ==== Proof.Slots.lean ====
/-
  The places a grid point works with: the three slots of the scratch ring, the two halves of a slot, the two row blocks
  of the result a slot is copied to, and the semaphores of those copies. Each is named here by its slot and half; the
  kernel names them by the grid point's number, and the lemmas below say the two are the same.
-/
module

public import proofs.«01_k».proof.Proof.Gen.KernelIdeal.Launch
public import proofs.«01_k».proof.Proof.Gen.KernelIdeal.Points
public import proofs.«01_k».proof.Proof.Tiles
public import Idealize.ShloMosaic.Lib.Ring
public import Idealize.ShloMosaic.Lib.Ring.WriteBehind

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The kernel's result. -/
abbrev resM : Memref sig .tc .hbm S4096x16384 .f32 := Memref.whole main_v1

/-- The scratch ring. -/
abbrev scrM : Memref sig .tc .vmem S3x256x16384 .f32 := Memref.whole cc0_scratch0

/-- A row block of the result, at given offsets. -/
abbrev dstAt (o : Fin 2 → ℕ) (h : ∀ a, o a + S128x16384.size a ≤ S4096x16384.size a) : Memref sig .tc .hbm S128x16384 .f32 :=
  resM.slice (Rect.unit (s := S4096x16384) o S128x16384.size h) (fun _ => rfl)

/-- A half slot of the ring, at given offsets. -/
abbrev srcAt (o : Fin 3 → ℕ) (h : ∀ a, o a + S1x128x16384.size a ≤ S3x256x16384.size a) : Memref sig .tc .vmem S128x16384 .f32 :=
  (scrM.slice (Rect.unit (s := S3x256x16384) o S1x128x16384.size h) (fun _ => rfl)).squeeze S128x16384
    squeezes_S1x128x16384_S128x16384

/-- A slot of the ring, at given offsets. -/
abbrev slotAt (o : Fin 3 → ℕ) (h : ∀ a, o a + S1x256x16384.size a ≤ S3x256x16384.size a) : Memref sig .tc .vmem S256x16384 .f32 :=
  (scrM.slice (Rect.unit (s := S3x256x16384) o S1x256x16384.size h) (fun _ => rfl)).squeeze S256x16384
    squeezes_S1x256x16384_S256x16384

/-- A semaphore, at given offsets. -/
abbrev cellAt (o : Fin 2 → ℕ) (h : ∀ a, o a + S1x1.size a ≤ S3x2.size a) : SemLoc sig :=
  .dma ((cc0_scratch1.slice (Rect.unit (s := S3x2) o S1x1.size h)).squeeze S_ squeezes_S1x1_S_).sem

theorem inb_dst (u : Fin 16) (h : Fin 2) :
    ∀ a, (![256 * u.val + 128 * h.val, 0] : Fin 2 → ℕ) a + S128x16384.size a ≤ S4096x16384.size a := by
  revert u h; decide +kernel

theorem inb_src (k : Fin 3) (h : Fin 2) :
    ∀ a, (![k.val, 128 * h.val, 0] : Fin 3 → ℕ) a + S1x128x16384.size a ≤ S3x256x16384.size a := by
  revert k h; decide +kernel

theorem inb_slot (k : Fin 3) : ∀ a, (![k.val, 0, 0] : Fin 3 → ℕ) a + S1x256x16384.size a ≤ S3x256x16384.size a := by
  revert k; decide +kernel

theorem inb_cell (k : Fin 3) (h : Fin 2) : ∀ a, (![k.val, h.val] : Fin 2 → ℕ) a + S1x1.size a ≤ S3x2.size a := by
  revert k h; decide +kernel

theorem inb_half (h : Fin 2) : ∀ a, (![128 * h.val, 0] : Fin 2 → ℕ) a + S128x16384.size a ≤ S256x16384.size a := by
  revert h; decide +kernel

/-- Rows 256u + 128h to 256u + 128h + 127 of the result. -/
abbrev dstM (u : Fin 16) (h : Fin 2) := dstAt ![256 * u.val + 128 * h.val, 0] (inb_dst u h)

/-- Half h of slot k. -/
abbrev srcM (k : Fin 3) (h : Fin 2) := srcAt ![k.val, 128 * h.val, 0] (inb_src k h)

/-- Slot k. -/
abbrev slotM (k : Fin 3) := slotAt ![k.val, 0, 0] (inb_slot k)

/-- The semaphore of the copy out of half h of slot k. -/
abbrev cellM (k : Fin 3) (h : Fin 2) : SemLoc sig := cellAt ![k.val, h.val] (inb_cell k h)

/-- Half h of a slot, as a rectangle. -/
abbrev halfR (h : Fin 2) : Rect S256x16384 := Rect.unit (s := S256x16384) ![128 * h.val, 0] S128x16384.size (inb_half h)

/-- Row block (u, h) of the result holds f. -/
abbrev dstPt (c : Dev nD) (u : Fin 16) (h : Fin 2) (f : Buf (Elt F) ((Memref.whole main_v1).view.loc (c : Thread nD τ))) : sProp 𝕄 :=
  (dstM u h).view.loc (c : Thread nD τ) ↦[(dstM u h).view.set]{fullShare} f

/-- Half h of slot k holds f. -/
abbrev srcPt (c : Dev nD) (k : Fin 3) (h : Fin 2) (f : Buf (Elt F) ((Memref.whole cc0_scratch0).view.loc (c : Thread nD τ))) : sProp 𝕄 :=
  (srcM k h).view.loc (c : Thread nD τ) ↦[(srcM k h).view.set]{fullShare} f

/-! ## Where each place's elements lie -/

theorem dst_emb (u : Fin 16) (h : Fin 2) (x : S128x16384.Idx) :
    (dstM u h).view.emb x = (ix2 (⟨256 * u.val + 128 * h.val + (x 0).val, by
      have : (x 0).val < 128 := (x 0).isLt; omega⟩ : Fin 4096) (x 1) : S4096x16384.Idx) := by
  funext a; fin_cases a
  · exact Fin.ext (by show 256 * u.val + 128 * h.val + 1 * (x 0).val = 256 * u.val + 128 * h.val + (x 0).val; rw [Nat.one_mul])
  · exact Fin.ext (by show 0 + 1 * (x 1).val = (x 1).val; rw [Nat.one_mul, Nat.zero_add])

theorem src_emb (k : Fin 3) (h : Fin 2) (x : S128x16384.Idx) :
    (srcM k h).view.emb x = (ix3 k (⟨128 * h.val + (x 0).val, by
      have : (x 0).val < 128 := (x 0).isLt; omega⟩ : Fin 256) (x 1) : S3x256x16384.Idx) := by
  obtain ⟨p, q, rfl⟩ : ∃ p q, x = ix2 p q := ⟨x 0, x 1, by funext a; fin_cases a <;> rfl⟩
  show (Rect.unit (s := S3x256x16384) ![k.val, 128 * h.val, 0] S1x128x16384.size (inb_src k h)).emb (Shape.reshapeEquiv _ (ix2 p q)) = _
  erw [reshapeEquiv_ix2_1ab]
  funext a; fin_cases a
  · exact Fin.ext (by show k.val + 1 * 0 = k.val; omega)
  · exact Fin.ext (by show 128 * h.val + 1 * p.val = 128 * h.val + p.val; omega)
  · exact Fin.ext (by show 0 + 1 * q.val = q.val; omega)

theorem slot_emb (k : Fin 3) (x : S256x16384.Idx) :
    (slotM k).view.emb x = (ix3 k (x 0) (x 1) : S3x256x16384.Idx) := by
  obtain ⟨p, q, rfl⟩ : ∃ p q, x = ix2 p q := ⟨x 0, x 1, by funext a; fin_cases a <;> rfl⟩
  show (Rect.unit (s := S3x256x16384) ![k.val, 0, 0] S1x256x16384.size (inb_slot k)).emb (Shape.reshapeEquiv _ (ix2 p q)) = _
  erw [reshapeEquiv_ix2_1ab]
  funext a; fin_cases a
  · exact Fin.ext (by show k.val + 1 * 0 = k.val; omega)
  · exact Fin.ext (by show 0 + 1 * p.val = p.val; omega)
  · exact Fin.ext (by show 0 + 1 * q.val = q.val; omega)

/-- Half h of slot k is rows 128h to 128h + 127 of the slot. -/
theorem src_emb_slot (k : Fin 3) (h : Fin 2) (x : S128x16384.Idx) :
    (srcM k h).view.emb x = (slotM k).view.emb ((halfR h).emb x) := by
  rw [src_emb, slot_emb]
  funext a; fin_cases a
  · rfl
  · exact Fin.ext (by show 128 * h.val + (x 0).val = 128 * h.val + 1 * (x 0).val; omega)
  · exact Fin.ext (by show (x 1).val = 0 + 1 * (x 1).val; omega)

theorem set_half (k : Fin 3) (h : Fin 2) : (slotM k).view.setOn (halfR h).set = (srcM k h).view.set := by
  ext z
  constructor
  · intro hz
    obtain ⟨y, hy, rfl⟩ := Finset.mem_map.mp hz
    obtain ⟨x, rfl⟩ := (halfR h).exists_idx_of_mem hy
    have := (srcM k h).view.emb_mem_set x
    rw [src_emb_slot] at this
    exact this
  · intro hz
    obtain ⟨x, -, rfl⟩ := Finset.mem_map.mp hz
    rw [src_emb_slot]
    refine Finset.mem_map_of_mem _ ?_
    rw [← Rect.map_emb_univ]
    exact Finset.mem_map_of_mem _ (Finset.mem_univ x)

/-! ## What the places hold -/

/-- A ring whose every slot holds the rows of grid point u of the result G. -/
def srcG (G : Vec F S4096x16384 .f32) (u : Fin 16) : Vec F S3x256x16384 .f32 := fun z =>
  G (ix2 (⟨256 * u.val + (z 1).val, by have : (z 1).val < 256 := (z 1).isLt; omega⟩ : Fin 4096) (⟨(z 2).val, (z 2).isLt⟩ : Fin 16384))

/-- The block of grid point u is its rows of G. -/
def IsBlock (G : Vec F S4096x16384 .f32) (u : Fin 16) (s : F .f32) (b : Vec F S256x2 .f32) : Prop :=
  ∀ y : S256x16384.Idx, blk s b y = G (ix2 (⟨256 * u.val + (y 0).val, by have : (y 0).val < 256 := (y 0).isLt; omega⟩ : Fin 4096)
    (⟨(y 1).val, (y 1).isLt⟩ : Fin 16384))

/-- A half slot held by its own elements is held as the half of its slot. -/
theorem half_held (c : Dev nD) (k : Fin 3) (h : Fin 2) (o : Fin 3 → ℕ) (ho) (e : o = ![k.val, 0, 0])
    (f : Buf (Elt F) ((Memref.whole cc0_scratch0).view.loc (c : Thread nD τ))) :
    (srcPt c k h f : sProp 𝕄)
      = ((slotAt o ho).view.loc (c : Thread nD τ) ↦[(slotAt o ho).view.setOn (halfR h).set]{fullShare} f) := by
  subst e
  rw [set_half]

/-- After the stores of a half, the half holds its rows of the result. -/
theorem half_stored (c : Dev nD) (k : Fin 3) (h : Fin 2) (u : Fin 16) (G : Vec F S4096x16384 .f32) (s : F .f32)
    (b : Vec F S256x2 .f32) (hG : IsBlock G u s b) (o : Fin 3 → ℕ) (ho) (e : o = ![k.val, 0, 0])
    (o' : Fin 3 → ℕ) (ho') (e' : o' = ![k.val, 128 * h.val, 0])
    (g : Buf (Elt F) ((Memref.whole cc0_scratch0).view.loc (c : Thread nD τ))) (L : List (View.Piece (Elt F) S256x16384 .f32))
    (hL : L = halfPieces h s b) :
    ((slotAt o ho).view.loc (c : Thread nD τ) ↦[(slotAt o ho).view.setOn (halfR h).set]{fullShare} (slotAt o ho).view.writes (Elt F) g L : sProp 𝕄)
      = ((srcAt o' ho').view.loc (c : Thread nD τ) ↦[(srcAt o' ho').view.set]{fullShare} srcG G u) := by
  subst e e' hL
  rw [← set_half k h]
  refine pointsTo_congr fun z hz => ?_
  obtain ⟨y, hy, rfl⟩ := Finset.mem_map.mp hz
  have hy' : 128 * h.val ≤ (y 0).val ∧ (y 0).val < 128 * h.val + 128 := Rect.mem_set_unit.mp hy 0
  have hr := (slotM k).view.read_writes_apply_of_pieces (Val := Elt F) (f := g) (blk s b) (halfPieces h s b)
    (pieces_agree h s b 64 (le_refl 64)) y
    (pieces_cover h _ _ _ _ y (by omega) 64 (le_refl 64) (by have : (y 1).val < 16384 := (y 1).isLt; omega))
  refine (show _ = _ from hr).trans ((hG y).trans ?_)
  have hemb : (slotM k).view.emb y = (ix3 k (y 0) (y 1) : S3x256x16384.Idx) := slot_emb k y
  erw [hemb]
  rfl

/-- After the copy, the row block holds its rows of the result. -/
theorem copied (c : Dev nD) (k : Fin 3) (h : Fin 2) (u : Fin 16) (G : Vec F S4096x16384 .f32) (o : Fin 2 → ℕ) (ho)
    (e : o = ![256 * u.val + 128 * h.val, 0]) (o' : Fin 3 → ℕ) (ho') (e' : o' = ![k.val, 128 * h.val, 0])
    (f : Buf (Elt F) ((Memref.whole main_v1).view.loc (c : Thread nD τ))) :
    ((dstAt o ho).view.loc (c : Thread nD τ) ↦[(dstAt o ho).view.set]{fullShare}
        (dstAt o ho).view.write (Elt F) f ((srcAt o' ho').view.read (Elt F) (srcG G u)) Finset.univ : sProp 𝕄)
      = dstPt c u h G := by
  subst e e'
  refine pointsTo_congr fun z hz => ?_
  obtain ⟨x, -, rfl⟩ := Finset.mem_map.mp hz
  rw [View.write_emb_of_mem _ _ (Finset.mem_univ _)]
  show srcG G u ((srcM k h).view.emb x) = G ((dstM u h).view.emb x)
  rw [src_emb, dst_emb]
  show G _ = G _
  congr 1
  funext a; fin_cases a
  · exact Fin.ext (by show 256 * u.val + (128 * h.val + (x 0).val) = 256 * u.val + 128 * h.val + (x 0).val; omega)
  · rfl

end Cert.KernelIdeal.Hand
end
-- ==== Proof.Body.lean ====
/-
  The run of one grid point, in the three situations the grid has.

  A grid point fills one slot of the ring, half by half, and starts a copy of each half to the result. At the first three
  points the slot is free. At the later ones the copies that left the slot three points before are still in flight, and
  the point waits for them first. The last point also waits for every copy still in flight, its own included.
-/
module

public import proofs.«01_k».proof.Proof.Slots

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Equal assertions entail each other. -/
theorem ent {P Q : sProp 𝕄} (e : P = Q) : P ⊢ Q := e ▸ Idealize.SL.BI.Entails.refl _

/-- The width s, as the kernel loads it. -/
def width (a : Vec F S1 .f32) : F .f32 :=
  View.ld a (Rect.unit (s := S1) ![0] S1.size inb_S1_S1_0) (Shape.Idx.first Nat.one_pos)

/-- The copy out of half h of slot k to row block (u, h) is in flight; it delivers the row block holding its rows of G
    and gives the half back. -/
abbrev inFlight (c : Dev nD) (k : Fin 3) (u : Fin 16) (h : Fin 2) (G : Vec F S4096x16384 .f32) : sProp 𝕄 :=
  Transfers.Flight (countersEmb (U := Pipeline.UD sig nD τ)) (c : Thread nD τ) (cellM k h) () (dstM u h).view.dmaCredit
    iprop(dstPt c u h G ∗ srcPt c k h (srcG G u))

/-- A semaphore is the same at equal offsets. -/
theorem cell_eq {o o' : Fin 2 → ℕ} (ho) (ho') (e : o = o') : cellAt o ho = cellAt o' ho' := by subst e; rfl

/-- A copy in flight, as the grid point that waits for it names it: the half comes back as the half of its slot. -/
theorem flight_wait (c : Dev nD) (k : Fin 3) (h : Fin 2) (u : Fin 16) (G : Vec F S4096x16384 .f32)
    (o : Fin 2 → ℕ) (ho) (e : o = ![k.val, h.val]) (o' : Fin 3 → ℕ) (ho') (e' : o' = ![k.val, 0, 0]) (N : ℕ)
    (hN : (dstM u h).view.dmaCredit = N) :
    (inFlight c k u h G : sProp 𝕄) ⊢ Transfers.Flight (countersEmb (U := Pipeline.UD sig nD τ)) (c : Thread nD τ) (cellAt o ho) () N
      iprop(dstPt c u h G ∗ ((slotAt o' ho').view.loc (c : Thread nD τ) ↦[(slotAt o' ho').view.setOn (halfR h).set]{fullShare} srcG G u)) := by
  subst e hN
  refine Transfers.Flight_mono _ _ ?_
  exact Idealize.SL.BI.sep_mono_r (ent (half_held c k h o' ho' e' _))

/-- A row block, at the offsets the kernel computes. -/
theorem dst_eq (c : Dev nD) (u : Fin 16) (h : Fin 2) (o : Fin 2 → ℕ) (ho) (e : o = ![256 * u.val + 128 * h.val, 0])
    (f : Buf (Elt F) ((Memref.whole main_v1).view.loc (c : Thread nD τ))) :
    (dstPt c u h f : sProp 𝕄) = ((dstAt o ho).view.loc (c : Thread nD τ) ↦[(dstAt o ho).view.set]{fullShare} f) := by
  subst e; rfl

/-- A copy in flight, as the grid point that starts it names it. -/
theorem flight_sent (c : Dev nD) (k : Fin 3) (h : Fin 2) (u : Fin 16) (G : Vec F S4096x16384 .f32)
    (o : Fin 2 → ℕ) (ho) (e : o = ![k.val, h.val]) (od : Fin 2 → ℕ) (hod) (ed : od = ![256 * u.val + 128 * h.val, 0])
    (os : Fin 3 → ℕ) (hos) (es : os = ![k.val, 128 * h.val, 0]) (N : ℕ) (hN : N = (dstM u h).view.dmaCredit)
    (f : Buf (Elt F) ((Memref.whole main_v1).view.loc (c : Thread nD τ))) (w : Vec F S128x16384 .f32)
    (hw : w = (srcAt os hos).view.read (Elt F) (srcG G u)) :
    (Transfers.Flight (countersEmb (U := Pipeline.UD sig nD τ)) (c : Thread nD τ) (cellAt o ho) (default : Unit) N
      iprop(((dstAt od hod).view.loc (c : Thread nD τ) ↦[(dstAt od hod).view.set]{fullShare}
          (dstAt od hod).view.writes (Elt F) f [⟨Rect.whole S128x16384, w⟩])
        ∗ ((srcAt os hos).view.loc (c : Thread nD τ) ↦[(srcAt os hos).view.set]{fullShare} srcG G u)) : sProp 𝕄)
      ⊢ inFlight c k u h G := by
  subst e hN hw
  refine Transfers.Flight_mono _ _ (Idealize.SL.BI.sep_mono ?_ ?_)
  · rw [← View.write_univ_eq_writes_whole, View.writes_nil]
    exact ent (copied c k h u G od hod ed os hos es f)
  · subst es; exact Idealize.SL.BI.Entails.refl _

/-- A semaphore at zero, at the offsets the kernel computes. -/
theorem cell_zero (c : Dev nD) {o o' : Fin 2 → ℕ} (ho) (ho') (e : o = o') :
    (semVal ((c : Thread nD τ), cellAt o' ho') 0 : sProp 𝕄) = semVal ((c : Thread nD τ), cellAt o ho) 0 := by
  subst e; rfl

/-- A grid point whose slot is free. -/
theorem run_first (c : Dev nD) (i : grid0.Coords) (arg1 : Memref sig .tc .smem S1 .f32) (harg1 : arg1.IsWhole) (arg2 : Memref sig .tc .vmem S256x2 .f32) (harg2 : arg2.IsWhole)
    (u : Fin 16) (k : Fin 3) (hu : (i 0).val = u.val) (hk : u.val % 3 = k.val)
    (h1 : ¬ k0_cond1 i = 1#1) (h2 : ¬ k0_cond2 i = 1#1)
    (f1 : Buf (Elt F) (arg1.view.loc (c : Thread nD τ))) (f2 : Buf (Elt F) (arg2.view.loc (c : Thread nD τ)))
    (G : Vec F S4096x16384 .f32) (hG : IsBlock G u (width (arg1.view.read (Elt F) f1)) (arg2.view.read (Elt F) f2))
    (o0 o1 : Buf (Elt F) ((Memref.whole main_v1).view.loc (c : Thread nD τ)))
    (g0 g1 : Buf (Elt F) ((Memref.whole cc0_scratch0).view.loc (c : Thread nD τ)))
    (W : Waits sig Unit) :
    iprop((arg1.view.loc (c : Thread nD τ) ↦[arg1.view.set]{fullShare} f1) ∗ (arg2.view.loc (c : Thread nD τ) ↦[arg2.view.set]{fullShare} f2)
      ∗ srcPt c k 0 g0 ∗ srcPt c k 1 g1 ∗ semVal ((c : Thread nD τ), cellM k 0) 0 ∗ semVal ((c : Thread nD τ), cellM k 1) 0 ∗ dstPt c u 0 o0 ∗ dstPt c u 1 o1
      ∗ owes (c : Thread nD τ) 0 W)
     ⊢ wp frame (wpE (defs₀ (F := F)) Variants.none c none) Set.univ (cc0_rbf_splat i arg1 harg1 arg2 harg2 resM (Memref.isWhole_whole _) scrM (Memref.isWhole_whole _) cc0_scratch1)
        fun _ => iprop((arg1.view.loc (c : Thread nD τ) ↦[arg1.view.set]{fullShare} f1) ∗ (arg2.view.loc (c : Thread nD τ) ↦[arg2.view.set]{fullShare} f2)
          ∗ inFlight c k u 0 G ∗ inFlight c k u 1 G ∗ ∃ W, owes (c : Thread nD τ) 0 W) := by
  have e6 : k0_off6 i = ![k.val, 0, 0] := by rw [k0_off6_eq, hu, hk]
  have e7 : k0_off7 i = ![k.val, 0] := by rw [k0_off7_eq, hu, hk]
  have e10 : k0_off10 i = ![k.val, 1] := by rw [k0_off10_eq, hu, hk]
  have e9 : k0_off9 i = ![k.val, 0, 0] := by rw [k0_off9_eq, hu, hk]
  have e11 : k0_off11 i = ![k.val, 128, 0] := by rw [k0_off11_eq, hu, hk]
  have e80 : k0_off8 i 0#32 = ![256 * u.val + 128 * 0, 0] := by rw [← hu]; exact k0_off8_eq i 0
  have e81 : k0_off8 i 128#32 = ![256 * u.val + 128 * 1, 0] := by rw [← hu]; exact k0_off8_eq i 1
  iintro ⟨Ha1, Ha2, HS0, HS1, HF0, HF1, Hd0, Hd1, HW⟩
  ihave HS0 := (ent (half_held c k 0 _ (k0_off6_inb i) e6 g0)) $$ HS0
  ihave HS1 := (ent (half_held c k 1 _ (k0_off6_inb i) e6 g1)) $$ HS1
  ihave HF0 := (ent (cell_zero c (k0_off7_inb i) (inb_cell k 0) e7)) $$ HF0
  ihave HF1 := (ent (cell_zero c (k0_off10_inb i) (inb_cell k 1) e10)) $$ HF1
  ihave Hd0 := (ent (dst_eq c u 0 (k0_off8 i 0#32) (k0_off8_inb i 0) e80 o0)) $$ Hd0
  ihave Hd1 := (ent (dst_eq c u 1 (k0_off8 i 128#32) (k0_off8_inb i 1) e81 o1)) $$ Hd1
  rw [cc0_rbf_splat_eq_skeleton]
  unfold cc0_rbf_splat_skel
  sl_exec_parts!
  ihave HS0 := (ent (half_stored c k 0 u G _ _ hG _ (k0_off6_inb i) e6 _ (k0_off9_inb i) e9 _ _ (by sl_kernel_rfl))) $$ HS0
  sl_exec_parts!
  ihave HS1 := (ent (half_stored c k 1 u G _ _ hG _ (k0_off6_inb i) e6 _ (k0_off11_inb i) e11 _ _ (by sl_kernel_rfl))) $$ HS1
  sl_exec_parts!
  ihave HF0 := (flight_sent c k 0 u G _ (k0_off7_inb i) e7 (k0_off8 i 0#32) (k0_off8_inb i 0) e80 _ (k0_off9_inb i) e9 _ (by sl_kernel_rfl) o0 _ (by sl_kernel_rfl)) $$ HF0
  ihave HF1 := (flight_sent c k 1 u G _ (k0_off10_inb i) e10 (k0_off8 i 128#32) (k0_off8_inb i 1) e81 _ (k0_off11_inb i) e11 _ (by sl_kernel_rfl) o1 _ (by sl_kernel_rfl)) $$ HF1
  sl_step
  isplitl [Ha1]; iexact Ha1
  isplitl [Ha2]; iexact Ha2
  isplitl [HF0]; iexact HF0
  isplitl [HF1]; iexact HF1
  iexists _
  iexact HW

/-- A grid point whose slot is still being copied out, to grid point v's rows. -/
theorem run_mid (c : Dev nD) (i : grid0.Coords) (arg1 : Memref sig .tc .smem S1 .f32) (harg1 : arg1.IsWhole) (arg2 : Memref sig .tc .vmem S256x2 .f32) (harg2 : arg2.IsWhole)
    (u v : Fin 16) (k : Fin 3) (hu : (i 0).val = u.val) (hk : u.val % 3 = k.val)
    (h1 : k0_cond1 i = 1#1) (h2 : ¬ k0_cond2 i = 1#1)
    (f1 : Buf (Elt F) (arg1.view.loc (c : Thread nD τ))) (f2 : Buf (Elt F) (arg2.view.loc (c : Thread nD τ)))
    (G : Vec F S4096x16384 .f32) (hG : IsBlock G u (width (arg1.view.read (Elt F) f1)) (arg2.view.read (Elt F) f2))
    (o0 o1 : Buf (Elt F) ((Memref.whole main_v1).view.loc (c : Thread nD τ)))
    (W : Waits sig Unit) :
    iprop((arg1.view.loc (c : Thread nD τ) ↦[arg1.view.set]{fullShare} f1) ∗ (arg2.view.loc (c : Thread nD τ) ↦[arg2.view.set]{fullShare} f2)
      ∗ inFlight c k v 0 G ∗ inFlight c k v 1 G ∗ dstPt c u 0 o0 ∗ dstPt c u 1 o1
      ∗ owes (c : Thread nD τ) 0 W)
     ⊢ wp frame (wpE (defs₀ (F := F)) Variants.none c none) Set.univ (cc0_rbf_splat i arg1 harg1 arg2 harg2 resM (Memref.isWhole_whole _) scrM (Memref.isWhole_whole _) cc0_scratch1)
        fun _ => iprop((arg1.view.loc (c : Thread nD τ) ↦[arg1.view.set]{fullShare} f1) ∗ (arg2.view.loc (c : Thread nD τ) ↦[arg2.view.set]{fullShare} f2)
          ∗ dstPt c v 0 G ∗ dstPt c v 1 G ∗ inFlight c k u 0 G ∗ inFlight c k u 1 G ∗ ∃ W, owes (c : Thread nD τ) 0 W) := by
  have e6 : k0_off6 i = ![k.val, 0, 0] := by rw [k0_off6_eq, hu, hk]
  have e7 : k0_off7 i = ![k.val, 0] := by rw [k0_off7_eq, hu, hk]
  have e10 : k0_off10 i = ![k.val, 1] := by rw [k0_off10_eq, hu, hk]
  have e9 : k0_off9 i = ![k.val, 0, 0] := by rw [k0_off9_eq, hu, hk]
  have e11 : k0_off11 i = ![k.val, 128, 0] := by rw [k0_off11_eq, hu, hk]
  have e80 : k0_off8 i 0#32 = ![256 * u.val + 128 * 0, 0] := by rw [← hu]; exact k0_off8_eq i 0
  have e81 : k0_off8 i 128#32 = ![256 * u.val + 128 * 1, 0] := by rw [← hu]; exact k0_off8_eq i 1
  iintro ⟨Ha1, Ha2, HF0, HF1, Hd0, Hd1, HW⟩
  ihave HF0 := (flight_wait c k 0 v G _ (k0_off7_inb i) e7 _ (k0_off6_inb i) e6 (dstAt _ (k0_off8_inb i 0)).view.dmaCredit rfl) $$ HF0
  ihave HF1 := (flight_wait c k 1 v G _ (k0_off10_inb i) e10 _ (k0_off6_inb i) e6 (dstAt _ (k0_off8_inb i 1)).view.dmaCredit rfl) $$ HF1
  ihave Hd0 := (ent (dst_eq c u 0 (k0_off8 i 0#32) (k0_off8_inb i 0) e80 o0)) $$ Hd0
  ihave Hd1 := (ent (dst_eq c u 1 (k0_off8 i 128#32) (k0_off8_inb i 1) e81 o1)) $$ Hd1
  rw [cc0_rbf_splat_eq_skeleton]
  unfold cc0_rbf_splat_skel
  sl_exec_parts!
  ihave HS0 := (ent (half_stored c k 0 u G _ _ hG _ (k0_off6_inb i) e6 _ (k0_off9_inb i) e9 _ _ (by sl_kernel_rfl))) $$ HF0_src
  sl_exec_parts!
  ihave HS1 := (ent (half_stored c k 1 u G _ _ hG _ (k0_off6_inb i) e6 _ (k0_off11_inb i) e11 _ _ (by sl_kernel_rfl))) $$ HF1_src
  sl_exec_parts!
  ihave HF0 := (flight_sent c k 0 u G _ (k0_off7_inb i) e7 (k0_off8 i 0#32) (k0_off8_inb i 0) e80 _ (k0_off9_inb i) e9 _ (by sl_kernel_rfl) o0 _ (by sl_kernel_rfl)) $$ HF0
  ihave HF1 := (flight_sent c k 1 u G _ (k0_off10_inb i) e10 (k0_off8 i 128#32) (k0_off8_inb i 1) e81 _ (k0_off11_inb i) e11 _ (by sl_kernel_rfl) o1 _ (by sl_kernel_rfl)) $$ HF1
  sl_step
  isplitl [Ha1]; iexact Ha1
  isplitl [Ha2]; iexact Ha2
  isplitl [HF0_dst]; iexact HF0_dst
  isplitl [HF1_dst]; iexact HF1_dst
  isplitl [HF0]; iexact HF0
  isplitl [HF1]; iexact HF1
  iexists _
  iexact HW

/-- The last grid point. -/
theorem run_last (c : Dev nD) (i : grid0.Coords) (arg1 : Memref sig .tc .smem S1 .f32) (harg1 : arg1.IsWhole) (arg2 : Memref sig .tc .vmem S256x2 .f32) (harg2 : arg2.IsWhole)
    (v : Fin 16) (hi : (i 0).val = 15)
    (h1 : k0_cond1 i = 1#1) (h2 : k0_cond2 i = 1#1)
    (f1 : Buf (Elt F) (arg1.view.loc (c : Thread nD τ))) (f2 : Buf (Elt F) (arg2.view.loc (c : Thread nD τ)))
    (G : Vec F S4096x16384 .f32) (hG : IsBlock G 15 (width (arg1.view.read (Elt F) f1)) (arg2.view.read (Elt F) f2))
    (o0 o1 : Buf (Elt F) ((Memref.whole main_v1).view.loc (c : Thread nD τ)))
    (W : Waits sig Unit) :
    iprop((arg1.view.loc (c : Thread nD τ) ↦[arg1.view.set]{fullShare} f1) ∗ (arg2.view.loc (c : Thread nD τ) ↦[arg2.view.set]{fullShare} f2)
      ∗ inFlight c 0 v 0 G ∗ inFlight c 0 v 1 G ∗ inFlight c 1 13 0 G ∗ inFlight c 1 13 1 G ∗ inFlight c 2 14 0 G ∗ inFlight c 2 14 1 G
      ∗ dstPt c 15 0 o0 ∗ dstPt c 15 1 o1
      ∗ owes (c : Thread nD τ) 0 W)
     ⊢ wp frame (wpE (defs₀ (F := F)) Variants.none c none) Set.univ (cc0_rbf_splat i arg1 harg1 arg2 harg2 resM (Memref.isWhole_whole _) scrM (Memref.isWhole_whole _) cc0_scratch1)
        fun _ => iprop((arg1.view.loc (c : Thread nD τ) ↦[arg1.view.set]{fullShare} f1) ∗ (arg2.view.loc (c : Thread nD τ) ↦[arg2.view.set]{fullShare} f2)
          ∗ dstPt c v 0 G ∗ dstPt c v 1 G
          ∗ dstPt c 13 0 G ∗ dstPt c 13 1 G ∗ dstPt c 14 0 G ∗ dstPt c 14 1 G ∗ dstPt c 15 0 G ∗ dstPt c 15 1 G
          ∗ srcPt c 0 0 (srcG G 15) ∗ srcPt c 0 1 (srcG G 15) ∗ srcPt c 1 0 (srcG G 13) ∗ srcPt c 1 1 (srcG G 13)
          ∗ srcPt c 2 0 (srcG G 14) ∗ srcPt c 2 1 (srcG G 14)
          ∗ semVal ((c : Thread nD τ), cellM 0 0) 0 ∗ semVal ((c : Thread nD τ), cellM 0 1) 0
          ∗ semVal ((c : Thread nD τ), cellM 1 0) 0 ∗ semVal ((c : Thread nD τ), cellM 1 1) 0
          ∗ semVal ((c : Thread nD τ), cellM 2 0) 0 ∗ semVal ((c : Thread nD τ), cellM 2 1) 0 ∗ ∃ W, owes (c : Thread nD τ) 0 W) := by
  have e6 : k0_off6 i = ![(0 : Fin 3).val, 0, 0] := by rw [k0_off6_eq, hi]; rfl
  have e7 : k0_off7 i = ![(0 : Fin 3).val, 0] := by rw [k0_off7_eq, hi]; rfl
  have e10 : k0_off10 i = ![(0 : Fin 3).val, 1] := by rw [k0_off10_eq, hi]; rfl
  have e9 : k0_off9 i = ![(0 : Fin 3).val, 0, 0] := by rw [k0_off9_eq, hi]; rfl
  have e11 : k0_off11 i = ![(0 : Fin 3).val, 128, 0] := by rw [k0_off11_eq, hi]; rfl
  have e80 : k0_off8 i 0#32 = ![256 * (15 : Fin 16).val + 128 * 0, 0] := (k0_off8_eq i 0).trans (by rw [hi]; rfl)
  have e81 : k0_off8 i 128#32 = ![256 * (15 : Fin 16).val + 128 * 1, 0] := (k0_off8_eq i 1).trans (by rw [hi]; rfl)
  iintro ⟨Ha1, Ha2, HF0, HF1, HA0, HA1, HB0, HB1, Hd0, Hd1, HW⟩
  ihave HF0 := (flight_wait c 0 0 v G _ (k0_off7_inb i) e7 _ (k0_off6_inb i) e6 (dstAt _ (k0_off8_inb i 0)).view.dmaCredit rfl) $$ HF0
  ihave HF1 := (flight_wait c 0 1 v G _ (k0_off10_inb i) e10 _ (k0_off6_inb i) e6 (dstAt _ (k0_off8_inb i 1)).view.dmaCredit rfl) $$ HF1
  ihave Hd0 := (ent (dst_eq c 15 0 (k0_off8 i 0#32) (k0_off8_inb i 0) e80 o0)) $$ Hd0
  ihave Hd1 := (ent (dst_eq c 15 1 (k0_off8 i 128#32) (k0_off8_inb i 1) e81 o1)) $$ Hd1
  rw [cc0_rbf_splat_eq_skeleton]
  unfold cc0_rbf_splat_skel
  sl_exec_parts!
  ihave HS0 := (ent (half_stored c 0 0 15 G _ _ hG _ (k0_off6_inb i) e6 _ (k0_off9_inb i) e9 _ _ (by sl_kernel_rfl))) $$ HF0_src
  sl_exec_parts!
  ihave HS1 := (ent (half_stored c 0 1 15 G _ _ hG _ (k0_off6_inb i) e6 _ (k0_off11_inb i) e11 _ _ (by sl_kernel_rfl))) $$ HF1_src
  sl_exec_parts!
  ihave HO0 := (flight_sent c 0 0 15 G _ (k0_off7_inb i) e7 (k0_off8 i 0#32) (k0_off8_inb i 0) e80 _ (k0_off9_inb i) e9 _ (by sl_kernel_rfl) o0 _ (by sl_kernel_rfl)) $$ HF0
  ihave HO1 := (flight_sent c 0 1 15 G _ (k0_off10_inb i) e10 (k0_off8 i 128#32) (k0_off8_inb i 1) e81 _ (k0_off11_inb i) e11 _ (by sl_kernel_rfl) o1 _ (by sl_kernel_rfl)) $$ HF1
  sl_exec_parts!
  sl_step
  isplitl [Ha1]; iexact Ha1
  isplitl [Ha2]; iexact Ha2
  isplitl [HF0_dst]; iexact HF0_dst
  isplitl [HF1_dst]; iexact HF1_dst
  isplitl [HA0_dst]; iexact HA0_dst
  isplitl [HA1_dst]; iexact HA1_dst
  isplitl [HB0_dst]; iexact HB0_dst
  isplitl [HB1_dst]; iexact HB1_dst
  isplitl [HO0_dst]; iexact HO0_dst
  isplitl [HO1_dst]; iexact HO1_dst
  isplitl [HO0_src]; iexact HO0_src
  isplitl [HO1_src]; iexact HO1_src
  isplitl [HA0_src]; iexact HA0_src
  isplitl [HA1_src]; iexact HA1_src
  isplitl [HB0_src]; iexact HB0_src
  isplitl [HB1_src]; iexact HB1_src
  isplitl [HO0]; iexact HO0
  isplitl [HO1]; iexact HO1
  isplitl [HA0]; iexact HA0
  isplitl [HA1]; iexact HA1
  isplitl [HB0]; iexact HB0
  isplitl [HB1]; iexact HB1
  iexists _
  iexact HW

end Cert.KernelIdeal.Hand
end
-- ==== Proof.Ring.lean ====
/-
  What is held between two grid points.

  After t grid points, the row blocks of points not yet run hold what they held at the start, those whose copies have
  been waited for hold the result, and those whose copies are still in flight are held by the copies. A slot of the ring
  is free before its first use and after the last point; in between, its two halves belong to the copies of the last
  point that used it.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Contents of the result, and of the ring. -/
abbrev ResBuf (c : Dev nD) := Buf (Elt F) ((Memref.whole main_v1).view.loc (c : Thread nD τ))
abbrev ScrBuf (c : Dev nD) := Buf (Elt F) ((Memref.whole cc0_scratch0).view.loc (c : Thread nD τ))

/-- Both halves of the row block of point u hold f. -/
abbrev rowPt (c : Dev nD) (u : Fin 16) (f : ResBuf (F := F) c) : sProp 𝕄 := iprop(dstPt c u 0 f ∗ dstPt c u 1 f)

/-- Slot k is free: its halves hold anything and its semaphores are at zero. -/
def freeSlot (c : Dev nD) (k : Fin 3) : sProp 𝕄 :=
  iprop((∃ g, srcPt c k 0 g) ∗ (∃ g, srcPt c k 1 g) ∗ semVal ((c : Thread nD τ), cellM k 0) 0 ∗ semVal ((c : Thread nD τ), cellM k 1) 0)

/-- Slot k belongs to the copies of point u. -/
def busySlot (c : Dev nD) (k : Fin 3) (u : Fin 16) (G : Vec F S4096x16384 .f32) : sProp 𝕄 :=
  iprop(inFlight c k u 0 G ∗ inFlight c k u 1 G)

/-- The row block of point u after t points. -/
def rowAt (c : Dev nD) (O : ResBuf (F := F) c) (G : Vec F S4096x16384 .f32) (t : ℕ) (u : Fin 16) : sProp 𝕄 :=
  if t ≤ u.val then rowPt c u O else if t = 16 ∨ u.val + 3 < t then rowPt c u G else iprop(emp)

/-- The last point below t that uses slot k. -/
def user (t : ℕ) (k : Fin 3) : Fin 16 := Fin.ofNat 16 (k.val + 3 * ((t - 1 - k.val) / 3))

/-- Slot k after t points. -/
def slotAfter (c : Dev nD) (G : Vec F S4096x16384 .f32) (t : ℕ) (k : Fin 3) : sProp 𝕄 :=
  if t ≤ k.val ∨ t = 16 then freeSlot c k else busySlot c k (user t k) G

/-- What is held after t points. -/
def ringInv (c : Dev nD) (O : ResBuf (F := F) c) (G : Vec F S4096x16384 .f32) (t : ℕ) : sProp 𝕄 :=
  iprop(bigSep Finset.univ (rowAt c O G t) ∗ bigSep Finset.univ (slotAfter c G t))

theorem user_val (t : ℕ) (k : Fin 3) (h : t ≤ 16) (hk : k.val < t) : (user t k).val = k.val + 3 * ((t - 1 - k.val) / 3) := by
  have : k.val + 3 * ((t - 1 - k.val) / 3) < 16 := by omega
  exact Nat.mod_eq_of_lt this

/-- A family changed at the members of S only: those are taken out and, changed, put back. -/
theorem take {I : Type} [Fintype I] [DecidableEq I] (S : Finset I) (Φ Ψ : I → sProp 𝕄) (h : ∀ i, i ∉ S → Φ i = Ψ i) :
    bigSep Finset.univ Φ ⊢ iprop(bigSep S Φ ∗ (bigSep S Ψ -∗ bigSep Finset.univ Ψ)) := by
  have split : ∀ X : I → sProp 𝕄, bigSep Finset.univ X = iprop(bigSep S X ∗ bigSep (Finset.univ \ S) X) :=
    fun X => bigSep_sdiff_split (Finset.subset_univ S)
  rw [split Φ, split Ψ, bigSep_congr (s := Finset.univ \ S) (Φ := Φ) (Ψ := Ψ) fun i hi => h i (Finset.mem_sdiff.mp hi).2]
  iintro ⟨H, H'⟩
  isplitl [H]; · iexact H
  iintro H
  isplitl [H]; · iexact H
  iexact H'

/-! ## The rows and slots a point changes -/

theorem row_todo (c : Dev nD) (O : ResBuf (F := F) c) (G : Vec F S4096x16384 .f32) (t : ℕ) (u : Fin 16) (h : t ≤ u.val) :
    rowAt c O G t u = rowPt c u O := if_pos h

theorem row_busy (c : Dev nD) (O : ResBuf (F := F) c) (G : Vec F S4096x16384 .f32) (t : ℕ) (u : Fin 16) (h : u.val < t) (h' : t ≠ 16)
    (h'' : t ≤ u.val + 3) : rowAt c O G t u = iprop(emp) := by
  unfold rowAt; rw [if_neg (by omega), if_neg (by omega)]

theorem row_done (c : Dev nD) (O : ResBuf (F := F) c) (G : Vec F S4096x16384 .f32) (t : ℕ) (u : Fin 16) (h : u.val < t)
    (h' : t = 16 ∨ u.val + 3 < t) : rowAt c O G t u = rowPt c u G := by
  unfold rowAt; rw [if_neg (by omega), if_pos h']

theorem row_same (c : Dev nD) (O : ResBuf (F := F) c) (G : Vec F S4096x16384 .f32) (t : ℕ) (u : Fin 16) (h : u.val ≠ t)
    (h' : u.val + 3 ≠ t) (ht : t < 15) : rowAt c O G t u = rowAt c O G (t + 1) u := by
  unfold rowAt
  by_cases h1 : t ≤ u.val
  · rw [if_pos h1, if_pos (by omega)]
  · rw [if_neg h1, if_neg (show ¬ t + 1 ≤ u.val by omega)]
    by_cases h2 : u.val + 3 < t
    · rw [if_pos (Or.inr h2), if_pos (Or.inr (by omega))]
    · rw [if_neg (by omega), if_neg (by omega)]

theorem row_same_last (c : Dev nD) (O : ResBuf (F := F) c) (G : Vec F S4096x16384 .f32) (u : Fin 16) (h : u.val < 12) :
    rowAt c O G 15 u = rowAt c O G 16 u := by
  rw [row_done c O G 15 u (by omega) (Or.inr (by omega)), row_done c O G 16 u (by omega) (Or.inl rfl)]

theorem slot_free (c : Dev nD) (G : Vec F S4096x16384 .f32) (t : ℕ) (k : Fin 3) (h : t ≤ k.val ∨ t = 16) :
    slotAfter c G t k = freeSlot c k := if_pos h

theorem slot_busy (c : Dev nD) (G : Vec F S4096x16384 .f32) (t : ℕ) (k : Fin 3) (u : Fin 16) (h : k.val < t) (h' : t < 16)
    (hu : u.val < t) (hk : u.val % 3 = k.val) (hl : t ≤ u.val + 3) : slotAfter c G t k = busySlot c k u G := by
  unfold slotAfter
  rw [if_neg (by omega), show user t k = u from Fin.ext ((user_val t k (by omega) h).trans (by omega))]

theorem slot_same (c : Dev nD) (G : Vec F S4096x16384 .f32) (t : ℕ) (k : Fin 3) (h : t % 3 ≠ k.val) (ht : t < 15) :
    slotAfter c G t k = slotAfter c G (t + 1) k := by
  unfold slotAfter
  by_cases h1 : t ≤ k.val
  · rw [if_pos (Or.inl h1), if_pos (Or.inl (by omega))]
  · rw [if_neg (by omega), if_neg (by omega), show user t k = user (t + 1) k from
      Fin.ext ((user_val t k (by omega) (by omega)).trans (Eq.trans (by omega) (user_val (t + 1) k (by omega) (by omega)).symm))]

/-! ## The result and the ring, held whole and in pieces -/

/-- The elements of a row block of the result, and of a half slot of the ring. -/
abbrev dstSet (b : Fin 16 × Fin 2) : Finset S4096x16384.Idx := (dstM b.1 b.2).view.set
abbrev srcSet (b : Fin 3 × Fin 2) : Finset S3x256x16384.Idx := (srcM b.1 b.2).view.set

theorem dst_disjoint (b b' : Fin 16 × Fin 2) (h : b ≠ b') : Disjoint (dstSet b) (dstSet b') := by
  rw [Finset.disjoint_left]
  intro z hz hz'
  obtain ⟨x, -, rfl⟩ := Finset.mem_map.mp hz
  obtain ⟨x', -, e⟩ := Finset.mem_map.mp hz'
  rw [dst_emb, dst_emb] at e
  have e0 : 256 * b'.1.val + 128 * b'.2.val + (x' 0).val = 256 * b.1.val + 128 * b.2.val + (x 0).val := congrArg (fun z : S4096x16384.Idx => (z 0).val) e
  have h0 : (x 0).val < 128 := (x 0).isLt
  have h0' : (x' 0).val < 128 := (x' 0).isLt
  have := b.2.isLt; have := b'.2.isLt
  exact h (Prod.ext (Fin.ext (by omega)) (Fin.ext (by omega)))

theorem dst_mem (z : S4096x16384.Idx) : ∃ b, z ∈ dstSet b := by
  obtain ⟨z0, z1, rfl⟩ : ∃ (p : Fin 4096) (q : Fin 16384), z = ix2 p q := ⟨z 0, z 1, by funext a; fin_cases a <;> rfl⟩
  have h0 := z0.isLt
  obtain ⟨u, hu⟩ : ∃ u : Fin 16, u.val = z0.val / 256 := ⟨⟨z0.val / 256, by omega⟩, rfl⟩
  obtain ⟨h, hh⟩ : ∃ h : Fin 2, h.val = z0.val % 256 / 128 := ⟨⟨z0.val % 256 / 128, by omega⟩, rfl⟩
  obtain ⟨x, hx⟩ : ∃ x : Fin 128, x.val = z0.val % 128 := ⟨⟨z0.val % 128, by omega⟩, rfl⟩
  have hm := (dstM u h).view.emb_mem_set (ix2 x z1)
  rw [dst_emb, show (ix2 (⟨256 * u.val + 128 * h.val + x.val, by omega⟩ : Fin 4096) z1 : S4096x16384.Idx) = ix2 z0 z1 from
    congrArg (fun p => ix2 p z1) (Fin.ext (by show 256 * u.val + 128 * h.val + x.val = z0.val; omega))] at hm
  exact ⟨(u, h), hm⟩

theorem dst_cover : Finset.univ.biUnion dstSet = Finset.univ :=
  Finset.eq_univ_iff_forall.mpr fun z => (dst_mem z).elim fun b hb => Finset.mem_biUnion.mpr ⟨b, Finset.mem_univ b, hb⟩

theorem src_disjoint (b b' : Fin 3 × Fin 2) (h : b ≠ b') : Disjoint (srcSet b) (srcSet b') := by
  rw [Finset.disjoint_left]
  intro z hz hz'
  obtain ⟨x, -, rfl⟩ := Finset.mem_map.mp hz
  obtain ⟨x', -, e⟩ := Finset.mem_map.mp hz'
  rw [src_emb, src_emb] at e
  have ek : b'.1.val = b.1.val := congrArg (fun z : S3x256x16384.Idx => (z 0).val) e
  have e0 : 128 * b'.2.val + (x' 0).val = 128 * b.2.val + (x 0).val := congrArg (fun z : S3x256x16384.Idx => (z 1).val) e
  have h0 : (x 0).val < 128 := (x 0).isLt
  have h0' : (x' 0).val < 128 := (x' 0).isLt
  exact h (Prod.ext (Fin.ext (by omega)) (Fin.ext (by omega)))

theorem src_mem (z : S3x256x16384.Idx) : ∃ b, z ∈ srcSet b := by
  obtain ⟨k, z0, z1, rfl⟩ : ∃ (k : Fin 3) (p : Fin 256) (q : Fin 16384), z = ix3 k p q :=
    ⟨z 0, z 1, z 2, by funext a; fin_cases a <;> rfl⟩
  have h0 := z0.isLt
  obtain ⟨h, hh⟩ : ∃ h : Fin 2, h.val = z0.val / 128 := ⟨⟨z0.val / 128, by omega⟩, rfl⟩
  obtain ⟨x, hx⟩ : ∃ x : Fin 128, x.val = z0.val % 128 := ⟨⟨z0.val % 128, by omega⟩, rfl⟩
  have hm := (srcM k h).view.emb_mem_set (ix2 x z1)
  rw [src_emb, show (ix3 k (⟨128 * h.val + x.val, by omega⟩ : Fin 256) z1 : S3x256x16384.Idx) = ix3 k z0 z1 from
    congrArg (fun p => ix3 k p z1) (Fin.ext (by show 128 * h.val + x.val = z0.val; omega))] at hm
  exact ⟨(k, h), hm⟩

theorem src_cover : Finset.univ.biUnion srcSet = Finset.univ :=
  Finset.eq_univ_iff_forall.mpr fun z => (src_mem z).elim fun b hb => Finset.mem_biUnion.mpr ⟨b, Finset.mem_univ b, hb⟩

/-- The result held whole is held row block by row block. -/
theorem res_rows (c : Dev nD) (f : ResBuf (F := F) c) :
    (((c : Thread nD τ).loc main_v1) ↦{fullShare} f : sProp 𝕄) = bigSep Finset.univ fun u => rowPt c u f := by
  have h := Ring.pointsTo_blocks (nD := nD) (τ := τ) (sig := sig) (Ix := Unit) (Val := Elt F) (Name := ℕ) (U := Pipeline.UD sig nD τ) (Lvl := ℕ)
    (ℓ := (Memref.whole main_v1).view.loc (c : Thread nD τ)) dstSet dst_disjoint dst_cover (q := fullShare) f
  rw [bigSep_univ_prod] at h
  exact h.trans (bigSep_congr fun u _ => bigSep_univ_two _)

/-- The ring held whole is held half slot by half slot. -/
theorem scr_halves (c : Dev nD) (f : ScrBuf (F := F) c) :
    (((c : Thread nD τ).loc cc0_scratch0) ↦{fullShare} f : sProp 𝕄) = bigSep Finset.univ fun b : Fin 3 × Fin 2 => srcPt c b.1 b.2 f :=
  Ring.pointsTo_blocks (nD := nD) (τ := τ) (sig := sig) (Ix := Unit) (Val := Elt F) (Name := ℕ) (U := Pipeline.UD sig nD τ) (Lvl := ℕ)
    (ℓ := (Memref.whole cc0_scratch0).view.loc (c : Thread nD τ)) srcSet src_disjoint src_cover (q := fullShare) f

end Cert.KernelIdeal.Hand
end
-- ==== Proof.Launch.lean ====
/-
  The launch: the run of the kernel's program, from the run of its grid points.

  The region finds the points' coordinates in `main_v0` and the width in `main_arg1`; it leaves in `main_v1` the blocks
  of all grid points, one below the other.
-/
module

public import proofs.«01_k».proof.Proof.Ring
public import proofs.«01_k».proof.Proof.Gen.KernelIdeal.Frame
public import Idealize.ShloMosaic.Lib.Pipeline.FrameSuffixV
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the region leaves in the result -/

/-- Rows 256u to 256u + 255 of the points' coordinates: what grid point u reads. -/
def rows (X : Vec F S4096x2 .f32) (u : Fin 16) : Vec F S256x2 .f32 := fun y =>
  X (ix2 (⟨256 * u.val + (y 0).val, by have : (y 0).val < 256 := (y 0).isLt; omega⟩ : Fin 4096) (⟨(y 1).val, (y 1).isLt⟩ : Fin 2))

/-- The blocks of all grid points, one below the other. -/
def blocks (s : F .f32) (X : Vec F S4096x2 .f32) : Vec F S4096x16384 .f32 := fun z =>
  blk s (rows X ⟨(z 0).val / 256, by have : (z 0).val < 4096 := (z 0).isLt; omega⟩)
    (ix2 (⟨(z 0).val % 256, by omega⟩ : Fin 256) (⟨(z 1).val, (z 1).isLt⟩ : Fin 16384))

theorem blocks_isBlock (s : F .f32) (X : Vec F S4096x2 .f32) (u : Fin 16) : IsBlock (blocks s X) u s (rows X u) := by
  intro y
  obtain ⟨p, q, rfl⟩ : ∃ (p : Fin 256) (q : Fin 16384), y = ix2 p q := ⟨y 0, y 1, by funext a; fin_cases a <;> rfl⟩
  have hp := p.isLt
  show blk s (rows X u) (ix2 p q) = blk s (rows X ⟨(256 * u.val + p.val) / 256, _⟩) (ix2 ⟨(256 * u.val + p.val) % 256, _⟩ q)
  have e1 : (⟨(256 * u.val + p.val) / 256, by omega⟩ : Fin 16) = u := Fin.ext (by show (256 * u.val + p.val) / 256 = u.val; omega)
  have e2 : (⟨(256 * u.val + p.val) % 256, by omega⟩ : Fin 256) = p := Fin.ext (by show (256 * u.val + p.val) % 256 = p.val; omega)
  rw [e1, e2]

/-- What the region leaves in `main_v1`. -/
def left (c : Dev nD) : Vec F S4096x16384 .f32 := blocks (width (V m c main_arg1)) (V m c main_v0)

/-! ## The region's entry and exit -/

/-- The semaphores of the copies. -/
abbrev osem0 : Fin 6 → SemLoc sig := fun j => (![cellM 0 0, cellM 0 1, cellM 1 0, cellM 1 1, cellM 2 0, cellM 2 1] : Fin 6 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cellM 0 0) 0 ∗ semVal ((c : Thread nD τ), cellM 0 1) 0
          ∗ semVal ((c : Thread nD τ), cellM 1 0) 0 ∗ semVal ((c : Thread nD τ), cellM 1 1) 0
          ∗ semVal ((c : Thread nD τ), cellM 2 0) 0 ∗ semVal ((c : Thread nD τ), cellM 2 1) 0) := by
  rw [Pipeline.ownSems0_eq_of_list c osem0 [0, 1, 2, 3, 4, 5] (by decide) (by decide)]; rfl

/-- The buffer that the region's copies write. -/
def R0 : Finset (Ref sig .tc) := {main_v1}
theorem R0_sub : R0 ⊆ Pipeline.restRefs sig spec0 \ ∅ := by decide

/-- What the region leaves in each buffer it writes. -/
def leftAt (c : Dev nD) (b : Ref sig .tc) : Buf (Elt F) ((c : Thread nD τ).loc b) :=
  if h : b = main_v1 then h ▸ (left m c : Buf (Elt F) ((c : Thread nD τ).loc main_v1)) else V m c b

theorem leftAt_v1 (c : Dev nD) : leftAt m c main_v1 = left m c := dif_pos rfl

theorem slots_three (Φ : Fin 3 → sProp 𝕄) : bigSep Finset.univ Φ = iprop(Φ 0 ∗ Φ 1 ∗ Φ 2) :=
  bigSep_univ_eq_bigSepL [(0 : Fin 3), 1, 2] (by decide) (by decide) Φ

theorem halves_six (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [((0 : Fin 3), (0 : Fin 2)), (0, 1), (1, 0), (1, 1), (2, 0), (2, 1)] (by decide) (by decide) Φ

/-- At the region's entry nothing has run. -/
theorem enter (c : Dev nD) (G : (c : Dev nD) → (b : Ref sig .tc) → Buf (Elt F) ((c : Thread nD τ).loc b)) (L : Vec F S4096x16384 .f32) :
    (Pipeline.ΦDRV osem0 spec0 ∅ R0 G G c : sProp 𝕄) ⊢ ringInv c (G c main_v1) L 0 := by
  unfold Pipeline.ΦDRV ringInv R0
  rw [scopedRest0_eq, ownSems00_eq, bigSep_empty, bigSep_singleton, slots_three,
    bigSep_congr (Ψ := fun u => rowPt c u (G c main_v1)) (fun u _ => row_todo c (G c main_v1) L 0 u (Nat.zero_le _)), ← res_rows,
    slot_free c L 0 0 (Or.inl (Nat.zero_le _)), slot_free c L 0 1 (Or.inl (Nat.zero_le _)), slot_free c L 0 2 (Or.inl (Nat.zero_le _))]
  unfold freeSlot
  iintro ⟨⟨%f, Hs⟩, ⟨H00, H01, H10, H11, H20, H21⟩, -, HR⟩
  ihave Hs := (ent ((scr_halves c f).trans (halves_six _))) $$ Hs
  icases Hs with ⟨S00, S01, S10, S11, S20, S21⟩
  isplitl [HR]; · iexact HR
  isplitl [S00 S01 H00 H01]
  · isplitl [S00]; · iexists f; iexact S00
    isplitl [S01]; · iexists f; iexact S01
    isplitl [H00]; · iexact H00
    iexact H01
  isplitl [S10 S11 H10 H11]
  · isplitl [S10]; · iexists f; iexact S10
    isplitl [S11]; · iexists f; iexact S11
    isplitl [H10]; · iexact H10
    iexact H11
  isplitl [S20]; · iexists f; iexact S20
  isplitl [S21]; · iexists f; iexact S21
  isplitl [H20]; · iexact H20
  iexact H21

/-- The ring's halves, each held, are the ring held whole. -/
theorem ring_back (c : Dev nD) (f : ScrBuf (F := F) c) :
    iprop((∃ g, srcPt c 0 0 g) ∗ (∃ g, srcPt c 0 1 g) ∗ (∃ g, srcPt c 1 0 g) ∗ (∃ g, srcPt c 1 1 g) ∗ (∃ g, srcPt c 2 0 g) ∗ (∃ g, srcPt c 2 1 g))
      ⊢ (iprop(∃ g : ScrBuf (F := F) c, ((c : Thread nD τ).loc cc0_scratch0) ↦{fullShare} g) : sProp 𝕄) :=
  (ent (halves_six (fun b => iprop(∃ g, srcPt c b.1 b.2 g))).symm).trans
    (Ring.pointsTo_blocks_join_exists (nD := nD) (τ := τ) (sig := sig) (Ix := Unit) (Val := Elt F) (Name := ℕ) (U := Pipeline.UD sig nD τ) (Lvl := ℕ)
      (ℓ := (Memref.whole cc0_scratch0).view.loc (c : Thread nD τ)) srcSet src_disjoint src_cover (q := fullShare) f)

/-- At the region's exit the result holds the blocks. -/
theorem leave (c : Dev nD) (O : ResBuf (F := F) c) (G G' : (c : Dev nD) → (b : Ref sig .tc) → Buf (Elt F) ((c : Thread nD τ).loc b))
    (L : Vec F S4096x16384 .f32) (hL : G' c main_v1 = L) :
    ringInv c O L 16 ⊢ (Pipeline.ΦDRV osem0 spec0 ∅ R0 G G' c : sProp 𝕄) := by
  unfold Pipeline.ΦDRV ringInv R0
  rw [scopedRest0_eq, ownSems00_eq, bigSep_empty, bigSep_singleton, slots_three, hL,
    bigSep_congr (Ψ := fun u => rowPt c u L) (fun u _ => row_done c O L 16 u u.isLt (Or.inl rfl)), ← res_rows,
    slot_free c L 16 0 (Or.inr rfl), slot_free c L 16 1 (Or.inr rfl), slot_free c L 16 2 (Or.inr rfl)]
  unfold freeSlot
  iintro ⟨HR, ⟨⟨%f, S00⟩, S01, H00, H01⟩, ⟨S10, S11, H10, H11⟩, ⟨S20, S21, H20, H21⟩⟩
  isplitl [S00 S01 S10 S11 S20 S21]
  · iapply (ring_back c f)
    isplitl [S00]; · iexists f; iexact S00
    isplitl [S01]; · iexact S01
    isplitl [S10]; · iexact S10
    isplitl [S11]; · iexact S11
    isplitl [S20]; · iexact S20
    iexact S21
  isplitl [H00 H01 H10 H11 H20 H21]
  · isplitl [H00]; · iexact H00
    isplitl [H01]; · iexact H01
    isplitl [H10]; · iexact H10
    isplitl [H11]; · iexact H11
    isplitl [H20]; · iexact H20
    iexact H21
  isplitr
  · iempintro
  iexact HR

end Cert.KernelIdeal.Hand
end
-- ==== Proof.Region.lean ====
/-
  The region: each grid point takes what is held before it to what is held after it, and so the program runs.
-/
module

public import proofs.«01_k».proof.Proof.Launch

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## A grid point's number -/

theorem coord_eq : ∀ t : Fin cfg0.N, (grid0.coords t 0).val = t.val := (by decide : ∀ t : Fin grid0.N, (grid0.coords t 0).val = t.val)
theorem cond1_iff : ∀ t : Fin cfg0.N, k0_cond1 (grid0.coords t) = 1#1 ↔ 3 ≤ t.val :=
  (by decide : ∀ t : Fin grid0.N, k0_cond1 (grid0.coords t) = 1#1 ↔ 3 ≤ t.val)
theorem cond2_iff : ∀ t : Fin cfg0.N, k0_cond2 (grid0.coords t) = 1#1 ↔ t.val = 15 :=
  (by decide : ∀ t : Fin grid0.N, k0_cond2 (grid0.coords t) = 1#1 ↔ t.val = 15)

/-! ## One point's step of the invariant -/

/-- A run from P, beside R: R is kept. -/
theorem run_beside {P Q R Q' : sProp 𝕄} {p : Prog (TpuEff nD τ sig (Elt F) Λ₀ .tc) PUnit} {c : Dev nD}
    (h : P ⊢ wp frame (wpE (defs₀ (F := F)) Variants.none (c : Thread nD τ) none) Set.univ p fun _ => Q) (hq : iprop(Q ∗ R) ⊢ Q') :
    iprop(P ∗ R) ⊢ wp frame (wpE (defs₀ (F := F)) Variants.none (c : Thread nD τ) none) Set.univ p fun _ => Q' :=
  (Idealize.SL.BI.sep_mono_l h).trans ((wp_frame_r _ _ _).trans (wp_mono _ _ _ fun _ => hq))

/-- A family changed at one member: that member is taken out and, changed, put back. -/
theorem take_one {I : Type} [Fintype I] [DecidableEq I] (i : I) (Φ Ψ : I → sProp 𝕄) (h : ∀ j, j ≠ i → Φ j = Ψ j) :
    bigSep Finset.univ Φ ⊢ iprop(Φ i ∗ (Ψ i -∗ bigSep Finset.univ Ψ)) := by
  have := take {i} Φ Ψ fun j hj => h j fun e => hj (Finset.mem_singleton.mpr e)
  rwa [bigSep_singleton, bigSep_singleton] at this

/-- A family changed at two members. -/
theorem take_two {I : Type} [Fintype I] [DecidableEq I] (i j : I) (hij : i ≠ j) (Φ Ψ : I → sProp 𝕄)
    (h : ∀ k, k ≠ i → k ≠ j → Φ k = Ψ k) :
    bigSep Finset.univ Φ ⊢ iprop((Φ i ∗ Φ j) ∗ ((Ψ i ∗ Ψ j) -∗ bigSep Finset.univ Ψ)) := by
  have := take {i, j} Φ Ψ fun k hk => h k (fun e => hk (Finset.mem_insert.mpr (Or.inl e)))
    (fun e => hk (Finset.mem_insert.mpr (Or.inr (Finset.mem_singleton.mpr e))))
  have two : ∀ X : I → sProp 𝕄, bigSep {i, j} X = iprop(X i ∗ X j) := fun X => by
    rw [bigSep_insert (by rw [Finset.mem_singleton]; exact hij), bigSep_singleton]; rfl
  rwa [two, two] at this

/-- The last four rows change at the last point. -/
theorem take_last (Φ Ψ : Fin 16 → sProp 𝕄) (h : ∀ k : Fin 16, k.val < 12 → Φ k = Ψ k) :
    bigSep Finset.univ Φ ⊢ iprop((Φ 12 ∗ Φ 13 ∗ Φ 14 ∗ Φ 15) ∗ ((Ψ 12 ∗ Ψ 13 ∗ Ψ 14 ∗ Ψ 15) -∗ bigSep Finset.univ Ψ)) := by
  have := take {12, 13, 14, 15} Φ Ψ fun k hk => h k (by revert hk k; decide)
  have four : ∀ X : Fin 16 → sProp 𝕄, bigSep {12, 13, 14, 15} X = iprop(X 12 ∗ X 13 ∗ X 14 ∗ X 15) := fun X => by
    rw [bigSep_insert (by decide), bigSep_insert (by decide), bigSep_insert (by decide), bigSep_singleton]; rfl
  rwa [four, four] at this

section Step

variable (c : Dev nD) (t : Fin cfg0.N) (arg1 : Memref sig .tc .smem S1 .f32) (harg1 : arg1.IsWhole)
  (arg2 : Memref sig .tc .vmem S256x2 .f32) (harg2 : arg2.IsWhole)
  (f1 : Buf (Elt F) (arg1.view.loc (c : Thread nD τ))) (f2 : Buf (Elt F) (arg2.view.loc (c : Thread nD τ)))
  (O : ResBuf (F := F) c) (G : Vec F S4096x16384 .f32)

/-- What a grid point starts from, and what it ends with. -/
abbrev pointPre (W : Waits sig Unit) : sProp 𝕄 :=
  iprop((arg1.view.loc (c : Thread nD τ) ↦[arg1.view.set]{fullShare} f1) ∗ (arg2.view.loc (c : Thread nD τ) ↦[arg2.view.set]{fullShare} f2)
      ∗ ringInv c O G t.val ∗ owes (c : Thread nD τ) 0 W)
abbrev pointPost : sProp 𝕄 :=
  iprop((arg1.view.loc (c : Thread nD τ) ↦[arg1.view.set]{fullShare} f1) ∗ (arg2.view.loc (c : Thread nD τ) ↦[arg2.view.set]{fullShare} f2)
      ∗ ringInv c O G (t.val + 1) ∗ ∃ W, owes (c : Thread nD τ) 0 W)
abbrev pointRun := cc0_rbf_splat (F := F) (grid0.coords t) arg1 harg1 arg2 harg2 resM (Memref.isWhole_whole _) scrM (Memref.isWhole_whole _) cc0_scratch1

/-- A point that finds its slot free. -/
theorem step_first (u : Fin 16) (k : Fin 3) (hu : u.val = t.val) (hk : k.val = t.val % 3) (h3 : t.val < 3)
    (hG : IsBlock G u (width (arg1.view.read (Elt F) f1)) (arg2.view.read (Elt F) f2)) (W : Waits sig Unit) :
    pointPre c t arg1 arg2 f1 f2 O G W
      ⊢ wp frame (wpE (defs₀ (F := F)) Variants.none c none) Set.univ (pointRun t arg1 harg1 arg2 harg2) fun _ => pointPost c t arg1 arg2 f1 f2 O G := by
  unfold pointPre pointPost ringInv
  have hR := take_one u (rowAt c O G t.val) (rowAt c O G (t.val + 1)) fun i hi =>
    row_same c O G t.val i (fun e => hi (Fin.ext (e.trans hu.symm))) (by omega) (by omega)
  have hS := take_one k (slotAfter c G t.val) (slotAfter c G (t.val + 1)) fun i hi =>
    slot_same c G t.val i (fun e => hi (Fin.ext (e.symm.trans hk.symm))) (by omega)
  rw [row_todo c O G t.val u (by omega), row_busy c O G (t.val + 1) u (by omega) (by omega) (by omega)] at hR
  rw [slot_free c G t.val k (Or.inl (by omega)), slot_busy c G (t.val + 1) k u (by omega) (by omega) (by omega) (by omega) (by omega)] at hS
  unfold freeSlot busySlot at hS
  iintro ⟨Ha1, Ha2, ⟨HR, HS⟩, HW⟩
  ihave HR := hR $$ HR
  ihave HS := hS $$ HS
  icases HR with ⟨⟨Hd0, Hd1⟩, HR⟩
  icases HS with ⟨⟨⟨%g0, S0⟩, ⟨%g1, S1⟩, H0, H1⟩, HS⟩
  iapply (run_beside (run_first c (grid0.coords t) arg1 harg1 arg2 harg2 u k ((coord_eq t).trans hu.symm) (by omega)
    (fun h => absurd ((cond1_iff t).mp h) (by omega)) (fun h => absurd ((cond2_iff t).mp h) (by omega)) f1 f2 G hG O O g0 g1 W) ?post)
  rotate_left
  · isplitl [Ha1 Ha2 S0 S1 H0 H1 Hd0 Hd1 HW]
    · isplitl [Ha1]; · iexact Ha1
      isplitl [Ha2]; · iexact Ha2
      isplitl [S0]; · iexact S0
      isplitl [S1]; · iexact S1
      isplitl [H0]; · iexact H0
      isplitl [H1]; · iexact H1
      isplitl [Hd0]; · iexact Hd0
      isplitl [Hd1]; · iexact Hd1
      iexact HW
    icombine HR HS as H
    iexact H
  · iintro ⟨⟨Ha1, Ha2, F0, F1, HW⟩, HR, HS⟩
    isplitl [Ha1]; · iexact Ha1
    isplitl [Ha2]; · iexact Ha2
    isplitr [HW]
    · isplitl [HR]
      · iapply HR; iempintro
      · iapply HS
        isplitl [F0]; · iexact F0
        iexact F1
    iexact HW

/-- A point that waits for the copies that left its slot three points before. -/
theorem step_mid (u v : Fin 16) (k : Fin 3) (hu : u.val = t.val) (hv : v.val + 3 = t.val) (hk : k.val = t.val % 3) (h15 : t.val < 15)
    (hG : IsBlock G u (width (arg1.view.read (Elt F) f1)) (arg2.view.read (Elt F) f2)) (W : Waits sig Unit) :
    pointPre c t arg1 arg2 f1 f2 O G W
      ⊢ wp frame (wpE (defs₀ (F := F)) Variants.none c none) Set.univ (pointRun t arg1 harg1 arg2 harg2) fun _ => pointPost c t arg1 arg2 f1 f2 O G := by
  unfold pointPre pointPost ringInv
  have hR := take_two u v (fun e => by rw [e] at hu; omega) (rowAt c O G t.val) (rowAt c O G (t.val + 1)) fun i hi hi' =>
    row_same c O G t.val i (fun e => hi (Fin.ext (e.trans hu.symm))) (fun e => hi' (Fin.ext (by omega))) (by omega)
  have hS := take_one k (slotAfter c G t.val) (slotAfter c G (t.val + 1)) fun i hi =>
    slot_same c G t.val i (fun e => hi (Fin.ext (e.symm.trans hk.symm))) (by omega)
  rw [row_todo c O G t.val u (by omega), row_busy c O G (t.val + 1) u (by omega) (by omega) (by omega),
    row_busy c O G t.val v (by omega) (by omega) (by omega), row_done c O G (t.val + 1) v (by omega) (Or.inr (by omega))] at hR
  rw [slot_busy c G t.val k v (by omega) (by omega) (by omega) (by omega) (by omega),
    slot_busy c G (t.val + 1) k u (by omega) (by omega) (by omega) (by omega) (by omega)] at hS
  unfold busySlot at hS
  iintro ⟨Ha1, Ha2, ⟨HR, HS⟩, HW⟩
  ihave HR := hR $$ HR
  ihave HS := hS $$ HS
  icases HR with ⟨⟨⟨Hd0, Hd1⟩, -⟩, HR⟩
  icases HS with ⟨⟨F0, F1⟩, HS⟩
  iapply (run_beside (run_mid c (grid0.coords t) arg1 harg1 arg2 harg2 u v k ((coord_eq t).trans hu.symm) (by omega)
    ((cond1_iff t).mpr (by omega)) (fun h => absurd ((cond2_iff t).mp h) (by omega)) f1 f2 G hG O O W) ?post)
  rotate_left
  · isplitl [Ha1 Ha2 F0 F1 Hd0 Hd1 HW]
    · isplitl [Ha1]; · iexact Ha1
      isplitl [Ha2]; · iexact Ha2
      isplitl [F0]; · iexact F0
      isplitl [F1]; · iexact F1
      isplitl [Hd0]; · iexact Hd0
      isplitl [Hd1]; · iexact Hd1
      iexact HW
    icombine HR HS as H
    iexact H
  · iintro ⟨⟨Ha1, Ha2, Hv0, Hv1, F0, F1, HW⟩, HR, HS⟩
    isplitl [Ha1]; · iexact Ha1
    isplitl [Ha2]; · iexact Ha2
    isplitr [HW]
    · isplitl [HR Hv0 Hv1]
      · iapply HR
        isplitr; · iempintro
        isplitl [Hv0]; · iexact Hv0
        iexact Hv1
      · iapply HS
        isplitl [F0]; · iexact F0
        iexact F1
    iexact HW

/-- The last point, which waits for every copy. -/
theorem step_last (h15 : t.val = 15)
    (hG : IsBlock G 15 (width (arg1.view.read (Elt F) f1)) (arg2.view.read (Elt F) f2)) (W : Waits sig Unit) :
    pointPre c t arg1 arg2 f1 f2 O G W
      ⊢ wp frame (wpE (defs₀ (F := F)) Variants.none c none) Set.univ (pointRun t arg1 harg1 arg2 harg2) fun _ => pointPost c t arg1 arg2 f1 f2 O G := by
  unfold pointPre pointPost ringInv
  rw [h15]
  have hR := take_last (rowAt c O G 15) (rowAt c O G 16) fun k hk => row_same_last c O G k hk
  rw [row_busy c O G 15 12 (by decide) (by decide) (by decide), row_busy c O G 15 13 (by decide) (by decide) (by decide),
    row_busy c O G 15 14 (by decide) (by decide) (by decide), row_todo c O G 15 15 (by decide),
    row_done c O G 16 12 (by decide) (Or.inl rfl), row_done c O G 16 13 (by decide) (Or.inl rfl),
    row_done c O G 16 14 (by decide) (Or.inl rfl), row_done c O G 16 15 (by decide) (Or.inl rfl)] at hR
  rw [slots_three (slotAfter c G 15), slots_three (slotAfter c G (15 + 1)),
    slot_busy c G 15 0 12 (by decide) (by decide) (by decide) (by decide) (by decide),
    slot_busy c G 15 1 13 (by decide) (by decide) (by decide) (by decide) (by decide),
    slot_busy c G 15 2 14 (by decide) (by decide) (by decide) (by decide) (by decide),
    slot_free c G (15 + 1) 0 (Or.inr rfl), slot_free c G (15 + 1) 1 (Or.inr rfl), slot_free c G (15 + 1) 2 (Or.inr rfl)]
  unfold busySlot freeSlot
  iintro ⟨Ha1, Ha2, ⟨HR, ⟨F00, F01⟩, ⟨F10, F11⟩, ⟨F20, F21⟩⟩, HW⟩
  ihave HR := hR $$ HR
  icases HR with ⟨⟨-, -, -, ⟨Hd0, Hd1⟩⟩, HR⟩
  iapply (run_beside (run_last c (grid0.coords t) arg1 harg1 arg2 harg2 12 ((coord_eq t).trans h15)
    ((cond1_iff t).mpr (by omega)) ((cond2_iff t).mpr h15) f1 f2 G hG O O W) ?post)
  rotate_left
  · isplitr [HR]
    · isplitl [Ha1]; · iexact Ha1
      isplitl [Ha2]; · iexact Ha2
      isplitl [F00]; · iexact F00
      isplitl [F01]; · iexact F01
      isplitl [F10]; · iexact F10
      isplitl [F11]; · iexact F11
      isplitl [F20]; · iexact F20
      isplitl [F21]; · iexact F21
      isplitl [Hd0]; · iexact Hd0
      isplitl [Hd1]; · iexact Hd1
      iexact HW
    iexact HR
  · iintro ⟨⟨Ha1, Ha2, D0, D0', D1, D1', D2, D2', D3, D3', S00, S01, S10, S11, S20, S21, Q00, Q01, Q10, Q11, Q20, Q21, HW⟩, HR⟩
    isplitl [Ha1]; · iexact Ha1
    isplitl [Ha2]; · iexact Ha2
    isplitr [HW]
    · isplitl [HR D0 D0' D1 D1' D2 D2' D3 D3']
      · iapply HR
        isplitl [D0 D0']
        · isplitl [D0]; · iexact D0
          iexact D0'
        isplitl [D1 D1']
        · isplitl [D1]; · iexact D1
          iexact D1'
        isplitl [D2 D2']
        · isplitl [D2]; · iexact D2
          iexact D2'
        isplitl [D3]; · iexact D3
        iexact D3'
      isplitl [S00 S01 Q00 Q01]
      · isplitl [S00]; · iexists _; iexact S00
        isplitl [S01]; · iexists _; iexact S01
        isplitl [Q00]; · iexact Q00
        iexact Q01
      isplitl [S10 S11 Q10 Q11]
      · isplitl [S10]; · iexists _; iexact S10
        isplitl [S11]; · iexists _; iexact S11
        isplitl [Q10]; · iexact Q10
        iexact Q11
      isplitl [S20]; · iexists _; iexact S20
      isplitl [S21]; · iexists _; iexact S21
      isplitl [Q20]; · iexact Q20
      iexact Q21
    iexact HW

/-- A grid point, over any whole staging buffers that hold the width and its rows, takes what is held before it to what is
    held after it. -/
theorem step (hG : ∀ u : Fin 16, u.val = t.val → IsBlock G u (width (arg1.view.read (Elt F) f1)) (arg2.view.read (Elt F) f2))
    (W : Waits sig Unit) :
    pointPre c t arg1 arg2 f1 f2 O G W
      ⊢ wp frame (wpE (defs₀ (F := F)) Variants.none c none) Set.univ (pointRun t arg1 harg1 arg2 harg2) fun _ => pointPost c t arg1 arg2 f1 f2 O G := by
  have ht : t.val < 16 := t.isLt
  by_cases h3 : t.val < 3
  · exact step_first c t arg1 harg1 arg2 harg2 f1 f2 O G ⟨t.val, ht⟩ ⟨t.val % 3, Nat.mod_lt _ (by omega)⟩ rfl rfl h3 (hG _ rfl) W
  by_cases h15 : t.val = 15
  · exact step_last c t arg1 harg1 arg2 harg2 f1 f2 O G h15 (hG 15 h15.symm) W
  · exact step_mid c t arg1 harg1 arg2 harg2 f1 f2 O G ⟨t.val, ht⟩ ⟨t.val - 3, by omega⟩ ⟨t.val % 3, Nat.mod_lt _ (by omega)⟩ rfl
      (by show t.val - 3 + 3 = t.val; omega) rfl (by omega) (hG _ rfl) W

end Step

/-! ## The proof data and the body's obligation -/

/-- The proof data of the pipeline: the arrays as the region finds them, each staging buffer left as found, the
    invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := ringInv c (V m c main_v1) (left m c) t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem start_0 (t : Fin cfg0.N) : ∀ a, cc0_transform_0 (grid0.coords t) a = 0 := fun a => by fin_cases a; rfl
theorem start_1 : ∀ t : Fin cfg0.N, cc0_transform_1 (grid0.coords t) 0 = t.val ∧ cc0_transform_1 (grid0.coords t) 1 = 0 :=
  (by decide : ∀ t : Fin grid0.N, cc0_transform_1 (grid0.coords t) 0 = t.val ∧ cc0_transform_1 (grid0.coords t) 1 = 0)

/-- The width's block is its array. -/
theorem iblk_0 (c : Dev nD) (t : Fin cfg0.N) : (iblk m c 0 t : Vec F S1 .f32) = V m c main_arg1 := by
  funext y
  show V m c main_arg1 _ = V m c main_arg1 y
  congr 1
  funext a
  fin_cases a
  exact Fin.ext (by
    show cc0_transform_0 (grid0.coords t) 0 * 1 + 1 * (y 0).val = (y 0).val
    rw [start_0]; omega)

/-- Grid point u's block of the coordinates is its rows. -/
theorem iblk_1 (c : Dev nD) (t : Fin cfg0.N) (u : Fin 16) (hu : u.val = t.val) :
    (iblk m c 1 t : Vec F S256x2 .f32) = rows (V m c main_v0) u := by
  funext y
  show V m c main_v0 _ = V m c main_v0 _
  congr 1
  funext a
  fin_cases a
  · exact Fin.ext (by
      show cc0_transform_1 (grid0.coords t) 0 * 256 + 1 * (y 0).val = 256 * u.val + (y 0).val
      rw [(start_1 t).1]; omega)
  · exact Fin.ext (by
      show cc0_transform_1 (grid0.coords t) 1 * 2 + 1 * (y 1).val = (y 1).val
      rw [(start_1 t).2]; omega)

abbrev ms0 (t : Fin cfg0.N) : Memref sig .tc .smem S1 .f32 := win0_0.stage (cfg0.slots t 0)
abbrev ms1 (t : Fin cfg0.N) : Memref sig .tc .vmem S256x2 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = ringInv c (V m c main_v1) (left m c) (t.val + 1) from rfl,
    show (dats m 0 c).Φ t.castSucc = ringInv c (V m c main_v1) (left m c) t.val from rfl, after_0, after_1]
  simp only [before_0, before_1]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %f1, %h1, H1⟩, ⟨%d1, %f2, %h2, H2⟩⟩
  have hG : ∀ u : Fin 16, u.val = t.val → IsBlock (left m c) u (width ((ms0 t).view.read (Elt F) f1)) ((ms1 t).view.read (Elt F) f2) := by
    intro u hu
    rw [h1, h2, iblk_1 m c t u hu]
    exact (congrArg (fun a => IsBlock (left m c) u (width a) (rows (V m c main_v0) u)) (iblk_0 m c t)).mpr (blocks_isBlock _ _ u)
  iapply ((step c t (ms0 t) (hstage0_0 _) (ms1 t) (hstage0_1 _) f1 f2 (V m c main_v1) (left m c) hG W).trans (wp_mono _ _ _ fun _ => ?post))
  rotate_left
  · isplitl [H1]; · iexact H1
    isplitl [H2]; · iexact H2
    isplitl [HΦ]; · iexact HΦ
    iexact HW
  · unfold pointPost
    iintro ⟨H1, H2, HΦ, ⟨%W', HW⟩⟩
    isplitl [HΦ]; · iexact HΦ
    isplitl [HW]
    · iexists W'; isplitr; · ipureintro; exact fun _ _ => Or.inl trivial
      iexact HW
    isplitl [H1]
    · iexists f1; isplitr; · ipureintro; exact h1
      iexact H1
    iexists f2; isplitr; · ipureintro; exact h2
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the program's buffers hold at its end. -/
def final (c : Dev nD) (b : Ref sig .tc) : Buf (Elt F) ((c : Thread nD τ).loc b) :=
  StableHlo.after (List.flatten [hostOps1]) (Pipeline.withArrays spec0 c (Pipeline.withR (V0 m c) R0 c (leftAt m c))
    fun w => (dats m 0 c).arrAt w cfg0.N) (Proc.devRef .tc b)

set_option backward.isDefEq.respectTransparency.types false in
/-- The program runs; each array ends as the region leaves it, each other buffer as the lines after the region leave it. -/
theorem run_main : θ_run defs (onTc (τ := τ) (main (F := F))) (s₀ m ρ) (fun r => (∀ c : Dev nD,
      (∀ w, r.2.mem (((spec0 w).arr.view.loc (c.tc : Thread nD τ))) = (dats m 0 c).arrAt w cfg0.N)
      ∧ ∀ b ∈ Pipeline.restRefs sig spec0, r.2.mem ((c.tc : Thread nD τ).loc b) = final m c b) ∧ r.2.sem = fun _ => 0) :=
  Pipeline.θ_run_frame_dmaR_aroundV cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := leftAt m) (hmain := hmain m Variants.none) (hA := A_eq m)
    (hin := fun c => enter c (V m) (left m c)) (hout := fun c => leave c (V m c main_v1) (V m) (leftAt m) (left m c) (leftAt_v1 m c))
    (Q' := _) (hQ' := fun _ h => ⟨fun c => h.1 c, h.2⟩)

end Cert.KernelIdeal.Hand
end
-- ==== Proof.Result.lean ====
/-
  The run read at the program's own arrays: the arguments end as they began, and the result is the region's array under
  the result's shape.
-/
module

public import proofs.«01_k».proof.Proof.Region

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F] [Named F]

variable (m : (ℓ : Loc nD τ sig) → Buf (Elt F) ℓ) (ρ : Dev nD → PrngReg)

/-- The points' coordinates end as they were launched. -/
theorem final_arg0 (c : Dev nD) : final m c main_arg0 = m ((c : Thread nD τ).loc main_arg0) := by
  unfold final
  rw [StableHlo.after_of_forall_not_mem (b := Proc.devRef .tc main_arg0) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c _ _ main_arg0 (by exact (by decide : ∀ w, Pipeline.arrRef spec0 w ≠ main_arg0)),
    Pipeline.withR_of_not_mem _ _ c _ main_arg0 (by decide)]
  exact V_main_arg0 m c

/-- The region's array, as the line after the region finds it. -/
theorem found_v1 (c : Dev nD) :
    Pipeline.withArrays spec0 c (Pipeline.withR (V0 m c) R0 c (leftAt m c)) (fun w => (dats m 0 c).arrAt w cfg0.N)
      (Proc.devRef .tc main_v1) = left m c := by
  rw [Pipeline.withArrays_of_ne _ c _ _ main_v1 (by exact (by decide : ∀ w, Pipeline.arrRef spec0 w ≠ main_v1)),
    Pipeline.withR_of_mem _ _ c _ main_v1 (by decide)]
  exact leftAt_v1 m c

/-- What the program returns: the blocks of all grid points, under the result's shape. -/
def result (s : FVec F S1 .f32) (X : FVec F S16x256x2 .f32) : FVec F S16x256x16384 .f32 :=
  shapeCast S16x256x16384 (blocks (width s) (shapeCast S4096x2 X shapeCasts_S16x256x2_S4096x2)) shapeCasts_S4096x16384_S16x256x16384

/-- The result array holds what the program returns. -/
theorem final_v2 (c : Dev nD) :
    final m c main_v2 = result (m ((c : Thread nD τ).loc main_arg1)) (m ((c : Thread nD τ).loc main_arg0)) := by
  have hv : V m c main_v0 = shapeCast S4096x2 (m ((c : Thread nD τ).loc main_arg0)) shapeCasts_S16x256x2_S4096x2 := by
    unfold V V0
    rfl
  have h : final m c main_v2 = shapeCast S16x256x16384 (left m c) shapeCasts_S4096x16384_S16x256x16384 := by
    rw [← found_v1 m c]
    unfold final
    rfl
  rw [h, result, left, hv, V_main_arg1]

/-- The program runs: its result is `result` of its arguments, its arguments and its semaphores end as they began. -/
theorem run : θ_run defs (onTc (τ := τ) (main (F := F))) ⟨m, fun _ => 0, ρ⟩ (fun r => (∀ c : Dev nD,
      r.2.mem ((c.tc : Thread nD τ).loc main_v2)
        = result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_v2 (Pipeline.mem_restRefs_of main_v2 (by decide) (by decide))).trans (final_v2 m c),
      ((h.1 c).2 main_arg0 (Pipeline.mem_restRefs_of main_arg0 (by decide) (by decide))).trans (final_arg0 m c),
      ((h.1 c).1 0).trans (((dats m 0 c).arrAt_in 0 rfl _).trans ((A_eq m c 0).trans (V_main_arg1 m c)))⟩, h.2⟩) (run_main m ρ)

end Cert.KernelIdeal.Hand
end
-- ==== Proof.Transfer.lean ====
/-
  The kernel as printed, from the kernel over named constants: with every name standing for its own printed bits, the two
  are one program.
-/
module

public import proofs.«01_k».proof.Proof.Result
public import proofs.«01_k».proof.Proof.Gen.Kernel
public import Idealize.ShloMosaic.PureOps.BitExact

@[expose] public section

set_option maxRecDepth 16384

noncomputable section

namespace Cert.Hand

open Idealize.ShloMosaic Idealize.SL.Sem

/-- Every named constant is the printed one. -/
instance namedBits : Named Bits := ⟨fun _ _ {φ} b => FloatOps.ofBits φ b⟩

instance : Cert.Kernel.Facts := Cert.Kernel.Gen.facts
instance : Cert.KernelIdeal.Facts := Cert.KernelIdeal.Gen.facts

theorem body_same : @Cert.Kernel.cc0_rbf_splat Bits _ _ = @Cert.KernelIdeal.cc0_rbf_splat Bits _ namedBits _ := rfl

theorem defs₀_same : @Cert.Kernel.defs₀ Bits _ _ = @Cert.KernelIdeal.defs₀ Bits _ namedBits _ := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | ⟨0, _⟩, a => rfl

theorem defs_same : @Cert.Kernel.defs Bits _ _ = @Cert.KernelIdeal.defs Bits _ namedBits _ :=
  congrArg (Pipeline.defs (nD := Cert.Kernel.nD) (τ := Cert.Kernel.τ) (Cert.Kernel.pcfgs (F := Bits))) defs₀_same

/-- The kernel as printed runs: its arguments and its semaphores end as they began. -/
theorem run_printed (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same]
  exact (θ_run _ _ _).mono (fun _ h => ⟨fun c => (h.1 c).2, h.2⟩) (Cert.KernelIdeal.Hand.run (F := Bits) m g)

end Cert.Hand
end
-- ==== Proof.Frames.lean ====
/-
  The frames of the three programs, and the named constants: each name has in the table the value that the claim states.
-/
module

public import proofs.«01_k».proof.Defs
public import proofs.«01_k».proof.Proof.Transfer
public import proofs.«01_k».proof.Proof.Gen.ReferenceIdeal
public import proofs.«01_k».proof.Proof.Gen.ReferenceIdeal.Run

@[expose] public section

set_option maxRecDepth 16384

noncomputable section

namespace Cert.Hand

open Idealize.ShloMosaic Idealize.SL.Sem

instance : Cert.ReferenceIdeal.Facts := Cert.ReferenceIdeal.Gen.facts

theorem frame_kernel : Cert.quiescent_Kernel := fun m g _ => run_printed m g

theorem frame_ideal : Cert.quiescent_KernelIdeal := fun m g _ =>
  (θ_run _ _ _).mono (fun _ h => ⟨fun c => (h.1 c).2, h.2⟩) (Cert.KernelIdeal.Hand.run (F := Ideal) m g)

theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

theorem preserves : Cert.preserves_Kernel_KernelIdeal := by
  unfold Cert.preserves_Kernel_KernelIdeal
  repeat' apply And.intro
  all_goals first | rfl | exact fun _ => rfl

end Cert.Hand
end
-- ==== Proof.Scalars.lean ====
/-
  The scalar mathematics, over the extended reals: the grid lines, the constants that the programs spell, and the value of
  one pixel.
-/
module

public import Idealize.ShloMosaic.PureOps.Ideal
public import Idealize.ShloMosaic.PureOps.Ideal.Laws

@[expose] public section

noncomputable section

namespace Cert.Pixel

open Idealize.ShloMosaic

theorem bits_neg_one : Ideal.ofBits .f32 0xBF800000#32 = ((-1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_turn : Ideal.ofBits .f32 0x40C90FDB#32 = ((13176795 / 2097152 : ℝ) : EReal) := by
  simp [Ideal.ofBits, Ideal.ieee, -EReal.coe_mul]; norm_num
theorem bits_scale : Ideal.ofBits .f32 0x461C4000#32 = ((10000 : ℝ) : EReal) := by
  simp [Ideal.ofBits, Ideal.ieee, -EReal.coe_mul]; norm_num
theorem bits_pitch : Ideal.ofBits .f32 0x429C4800#32 = ((10002 / 128 : ℝ) : EReal) := by
  simp [Ideal.ofBits, Ideal.ieee, -EReal.coe_mul]; norm_num

theorem sitofp_small (k : ℕ) (hk : k < 128) : (FloatOps.sitofp .f32 (BitVec.ofNat 32 k) : Ideal .f32) = ((k : ℝ) : EReal) := by
  have h : (BitVec.ofNat 32 k).toInt = (k : ℤ) := by
    rw [BitVec.toInt_eq_toNat_of_lt (by rw [BitVec.toNat_ofNat]; omega), BitVec.toNat_ofNat]; omega
  show (((BitVec.ofNat 32 k).toInt : ℝ) : EReal) = _
  rw [h]; norm_cast

/-- Grid line k. -/
def line (k : ℕ) : ℝ := -1 / 10000 + 5001 / 640000 * k

/-- The reference's grid line, in units of 1/10000 and then scaled. -/
theorem line_scaled (k : ℕ) (hk : k < 128) :
    Ideal.div (Ideal.ofBits .f32 0xBF800000#32 + Ideal.ofBits .f32 0x429C4800#32 * (FloatOps.sitofp .f32 (BitVec.ofNat 32 k) : Ideal .f32))
      (Ideal.ofBits .f32 0x461C4000#32) = ((line k : ℝ) : EReal) := by
  rw [sitofp_small k hk, bits_neg_one, bits_pitch, bits_scale, Ideal.div, if_neg (by norm_num), ← EReal.coe_inv]
  rw [← EReal.coe_mul, ← EReal.coe_add, ← EReal.coe_mul]
  congr 1
  unfold line
  ring

/-- One pixel as the reference states it: x against the grid line c, y - x against the grid line d, at the width s. -/
def pixel (x y s c d : EReal) : EReal :=
  Ideal.div (Ideal.exp (Ideal.div (-((x - c) * (x - c))) (((2 : ℝ) : EReal) * (s * s))
      + Ideal.div (-((y - x - d) * (y - x - d))) (((2 : ℝ) : EReal) * (s * s))))
    (((13176795 / 2097152 : ℝ) : EReal) * (s * s))

/-- The factor of the square in the kernel's exponents. -/
def rate (s : EReal) : EReal := Ideal.div ((-(1 / 2) : ℝ) : EReal) (s * s)

/-- The kernel's norm. -/
def norm (s : EReal) : EReal := Ideal.div ((1 : ℝ) : EReal) (((13176795 / 2097152 : ℝ) : EReal) * s * s)

/-- One pixel as the kernel computes it. -/
def product (x y s c d : EReal) : EReal :=
  Ideal.exp ((x - c) * (x - c) * rate s) * norm s * Ideal.exp ((y - x - d) * (y - x - d) * rate s)

theorem square_nonneg (a : EReal) : 0 ≤ a * a := by
  rcases le_total 0 a with h | h
  · exact mul_nonneg h h
  · have := mul_nonneg (EReal.neg_nonneg.mpr h) (EReal.neg_nonneg.mpr h)
    rwa [neg_mul_neg] at this

theorem exp_sum (u v : EReal) (hu : u ≠ ⊤) (hv : v ≠ ⊤) : Ideal.exp (u + v) = Ideal.exp u * Ideal.exp v := by
  induction u with
  | top => exact absurd rfl hu
  | bot => rw [EReal.bot_add]; show (0 : EReal) = 0 * _; rw [zero_mul]
  | coe u =>
    induction v with
    | top => exact absurd rfl hv
    | bot => rw [EReal.add_bot]; show (0 : EReal) = _ * 0; rw [mul_zero]
    | coe v =>
      rw [← EReal.coe_add]
      show ((Real.exp (u + v) : ℝ) : EReal) = ((Real.exp u : ℝ) : EReal) * ((Real.exp v : ℝ) : EReal)
      rw [Real.exp_add, EReal.coe_mul]

/-- A nonnegative times a negative real is not ⊤. -/
theorem mul_neg_ne_top (a : EReal) (ha : 0 ≤ a) (r : ℝ) (hr : r < 0) : a * ((r : ℝ) : EReal) ≠ ⊤ := by
  induction a with
  | top => rw [EReal.top_mul_coe_of_neg hr]; exact bot_ne_top
  | bot => exact absurd ha (by simp)
  | coe a => rw [← EReal.coe_mul]; exact EReal.coe_ne_top _

/-- At a width that is a nonzero real: the exponent, stated either way. -/
theorem exponent (a : EReal) (s : ℝ) (hs : s ≠ 0) :
    Ideal.div (-a) (((2 : ℝ) : EReal) * ((s : EReal) * (s : EReal))) = a * rate s := by
  have h0 : s * s ≠ 0 := mul_ne_zero hs hs
  unfold rate
  rw [← EReal.coe_mul, ← EReal.coe_mul, Ideal.div, Ideal.div, if_neg (by exact_mod_cast mul_ne_zero two_ne_zero h0),
    if_neg (by exact_mod_cast h0), ← EReal.coe_inv, ← EReal.coe_inv, ← EReal.coe_mul, neg_mul, ← mul_neg, ← EReal.coe_neg]
  congr 2
  field_simp

theorem rate_coe (s : ℝ) (hs : s ≠ 0) : rate s = ((-(1 / 2) * (s * s)⁻¹ : ℝ) : EReal) := by
  have h0 : s * s ≠ 0 := mul_ne_zero hs hs
  unfold rate
  rw [← EReal.coe_mul, Ideal.div, if_neg (by exact_mod_cast h0), ← EReal.coe_inv, ← EReal.coe_mul]

/-- The kernel's pixel is the reference's, at any points, infinite ones too, if the width is not zero. -/
theorem product_eq (x y s c d : EReal) (hs : s ≠ 0) : product x y s c d = pixel x y s c d := by
  have ht : (0 : ℝ) < 13176795 / 2097152 := by norm_num
  have wide : s * s = ⊤ → ((13176795 / 2097152 : ℝ) : EReal) * s * s = ⊤ → product x y s c d = pixel x y s c d := by
    intro h h'
    have h'' : ((13176795 / 2097152 : ℝ) : EReal) * (s * s) = ⊤ := by rw [← mul_assoc, h']
    have hn : norm s = 0 := by unfold norm; rw [h', Ideal.div, if_neg EReal.top_ne_zero, EReal.inv_top, mul_zero]
    unfold product pixel
    rw [hn, h'', mul_zero, zero_mul, Ideal.div, if_neg EReal.top_ne_zero, EReal.inv_top, mul_zero]
  induction s with
  | top =>
    refine wide EReal.top_mul_top ?_
    rw [EReal.coe_mul_top_of_pos ht, EReal.top_mul_top]
  | bot =>
    refine wide EReal.bot_mul_bot ?_
    rw [EReal.coe_mul_bot_of_pos ht, EReal.bot_mul_bot]
  | coe s =>
    have hs' : s ≠ 0 := by exact_mod_cast hs
    have hpos : 0 < s * s := mul_self_pos.mpr hs'
    have hr : -(1 / 2) * (s * s)⁻¹ < 0 := by
      have := inv_pos.mpr hpos
      linarith
    have hne : ∀ a : EReal, a * a * rate s ≠ ⊤ := fun a => by
      rw [rate_coe s hs']
      exact mul_neg_ne_top _ (square_nonneg a) _ hr
    unfold product pixel norm
    rw [exponent _ s hs', exponent _ s hs', exp_sum _ _ (hne _) (hne _), mul_assoc ((13176795 / 2097152 : ℝ) : EReal),
      ← EReal.coe_mul, ← EReal.coe_mul, Ideal.div, Ideal.div, if_neg (by exact_mod_cast (mul_pos ht hpos).ne'),
      EReal.coe_one, one_mul, mul_right_comm]
    rw [if_neg (by exact_mod_cast (mul_pos ht hpos).ne')]

end Cert.Pixel
end
-- ==== Proof.OddLines.lean ====
/-
  The named grid lines of the odd tiles are the grid lines with an odd index.
-/
module

public import proofs.«01_k».proof.Proof.Tiles
public import proofs.«01_k».proof.Proof.Scalars

@[expose] public section

set_option maxRecDepth 16384

noncomputable section

namespace Cert.KernelIdeal.Hand

open Cert.KernelIdeal Cert.KernelIdeal.Gen
open Idealize.ShloMosaic

theorem oddLine_eq (k : ℕ) (hk : k < 64) : (oddLine k : Ideal .f32) = ((Pixel.line (2 * k + 1) : ℝ) : EReal) := by
  interval_cases k <;>
  · refine congrArg (fun r : ℝ => (r : EReal)) (?_ : _ = Pixel.line _)
    unfold Pixel.line
    norm_num

end Cert.KernelIdeal.Hand
end
-- ==== Proof.Tables.lean ====
/-
  The kernel's tables at an entry, over the extended reals.
-/
module

public import proofs.«01_k».proof.Proof.OddLines
public import Idealize.ShloMosaic.Lib.Pointwise

@[expose] public section

set_option maxRecDepth 16384

noncomputable section

namespace Cert.KernelIdeal.Hand

open Cert.KernelIdeal Cert.KernelIdeal.Gen
open Idealize.ShloMosaic

theorem colX_at (b : Vec Ideal S256x2 .f32) (r : Fin 256) : colX b (ix2 r 0) = b (ix2 r 0) := by
  unfold colX
  refine congrArg b (funext fun a => ?_)
  fin_cases a
  · exact Fin.ext (by show 0 + 1 * r.val = r.val; omega)
  · rfl

theorem colY_at (b : Vec Ideal S256x2 .f32) (r : Fin 256) : colY b (ix2 r 0) = b (ix2 r 1) := by
  unfold colY
  refine congrArg b (funext fun a => ?_)
  fin_cases a
  · exact Fin.ext (by show 0 + 1 * r.val = r.val; omega)
  · rfl

theorem rate_at (s : Ideal .f32) : k0_pay3 (F := Ideal) s = Pixel.rate s := by
  show Ideal.div (Ideal.ofBits .f32 0xBF000000#32) (s * s) = _
  rw [Pixel.bits_neg_half]; rfl

theorem expo_at (s : Ideal .f32) : expo s = Pixel.rate s := rate_at s

/-- The kernel's grid line. -/
theorem line_at (c : Fin 128) : (k0_pay6 : FVec Ideal S1x128 .f32) (ix2 0 c) = ((Pixel.line c.val : ℝ) : EReal) := by
  have h : (k0_pay6 : FVec Ideal S1x128 .f32) (ix2 0 c)
      = ((-1 / 10000 : ℝ) : EReal) + ((5001 / 640000 : ℝ) : EReal) * (FloatOps.sitofp .f32 (BitVec.ofNat 32 c.val) : Ideal .f32) := by
    pointwise [k0_pay6]
    rfl
  rw [h, Pixel.sitofp_small _ c.isLt]
  rfl

theorem gxTab_at (s : Ideal .f32) (b : Vec Ideal S256x2 .f32) (r : Fin 256) (c : Fin 128) :
    gxTab s b (ix2 r c) = Ideal.exp ((b (ix2 r 0) - ((Pixel.line c.val : ℝ) : EReal)) * (b (ix2 r 0) - ((Pixel.line c.val : ℝ) : EReal))
      * Pixel.rate s) * Pixel.norm s := by
  unfold gxTab
  pointwise [k0_pay7, k0_pay4]
  rw [line_at, colX_at, rate_at, Pixel.bits_turn, ← EReal.coe_one]
  rfl

theorem gyTab_at (s : Ideal .f32) (b : Vec Ideal S256x2 .f32) (r : Fin 256) (c : Fin 128) :
    gyTab s b (ix2 r c) = Ideal.exp ((b (ix2 r 1) - b (ix2 r 0) - ((Pixel.line c.val : ℝ) : EReal))
      * (b (ix2 r 1) - b (ix2 r 0) - ((Pixel.line c.val : ℝ) : EReal)) * Pixel.rate s) := by
  unfold gyTab
  pointwise [k0_pay8, k0_pay5, k0_pay4]
  rw [line_at, colX_at, colY_at, rate_at]

theorem persTab_at (b : Vec Ideal S256x2 .f32) (r : Fin 256) (c : Fin 128) :
    persTab b (ix2 r c) = b (ix2 r 1) - b (ix2 r 0) := by
  unfold persTab
  pointwise [k0_pay9, k0_pay5, k0_pay4]
  rw [colX_at, colY_at]

theorem cut_at (h : Fin 2) (v : FVec Ideal S256x128 .f32) (r c : Fin 128) :
    cut h v (ix2 r c) = v (ix2 (⟨128 * h.val + r.val, by omega⟩ : Fin 256) c) := by
  unfold cut
  pointwise

theorem tileE_at (gx gy : FVec Ideal S128x128 .f32) (k : ℕ) (hk : k < 64) (r c : Fin 128) :
    tileE gx gy k hk (ix2 r c) = gx (ix2 r c) * gy (ix2 r (⟨2 * k, by omega⟩ : Fin 128)) := by
  unfold tileE
  pointwise

theorem tileO_at (gx p : FVec Ideal S128x128 .f32) (e : Ideal .f32) (k : ℕ) (r c : Fin 128) :
    tileO gx p e k (ix2 r c) = gx (ix2 r c) * Ideal.exp ((p (ix2 r c) - (oddLine k : Ideal .f32)) * (p (ix2 r c) - (oddLine k : Ideal .f32)) * e) := by
  unfold tileO
  pointwise

end Cert.KernelIdeal.Hand
end
-- ==== Proof.RefValue.lean ====
/-
  The reference's result: the image, pixel by pixel.
-/
module

public import proofs.«01_k».proof.Proof.Gen.ReferenceIdeal
public import proofs.«01_k».proof.Proof.Gen.ReferenceIdeal.Run
public import proofs.«01_k».proof.Proof.Scalars
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.SL.Sem

instance : Cert.ReferenceIdeal.Facts := Cert.ReferenceIdeal.Gen.facts

/-- The image: entry (b, p, q) is pixel (q % 128, q / 128) of the pair p of the diagram b. -/
def image (X : FVec Ideal S16x256x2 .f32) (s : FVec Ideal S1 .f32) : FVec Ideal S16x256x16384 .f32 := fun i =>
  Pixel.pixel (X (ix3 (i 0) (i 1) 0)) (X (ix3 (i 0) (i 1) 1)) (s (ix1 0))
    ((Pixel.line ((i 2).val % 128) : ℝ) : EReal) ((Pixel.line ((i 2).val / 128) : ℝ) : EReal)

/-- The reference's turned coordinates: x, and y - x. -/
theorem turned_0 (X : FVec Ideal S16x256x2 .f32) (i0 : Fin 16) (i1 : Fin 256) :
    ∑ x : Fin 2, X (ix3 i0 i1 x) * Ideal.ofBits .f32 (lit0 (S2x2.rowMajor (ix2 x 0))) = X (ix3 i0 i1 0) := by
  rw [Fin.sum_univ_two]
  show X (ix3 i0 i1 0) * Ideal.ofBits .f32 0x3F800000#32 + X (ix3 i0 i1 1) * Ideal.ofBits .f32 0x00000000#32 = _
  rw [Pixel.bits_one, Pixel.bits_zero, EReal.coe_one, mul_one, EReal.coe_zero, mul_zero, add_zero]

theorem turned_1 (X : FVec Ideal S16x256x2 .f32) (i0 : Fin 16) (i1 : Fin 256) :
    ∑ x : Fin 2, X (ix3 i0 i1 x) * Ideal.ofBits .f32 (lit0 (S2x2.rowMajor (ix2 x 1))) = X (ix3 i0 i1 1) - X (ix3 i0 i1 0) := by
  rw [Fin.sum_univ_two]
  show X (ix3 i0 i1 0) * Ideal.ofBits .f32 0xBF800000#32 + X (ix3 i0 i1 1) * Ideal.ofBits .f32 0x3F800000#32 = _
  rw [Pixel.bits_one, Pixel.bits_neg_one, EReal.coe_one, mul_one, EReal.coe_neg, EReal.coe_one, mul_neg, mul_one, add_comm,
    sub_eq_add_neg]

/-- The reference runs, and returns the image. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38)
        = image (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run (F := Ideal) m ρ)
  generalize m ((c.tc : Thread nD τ).loc main_arg0) = X
  generalize m ((c.tc : Thread nD τ).loc main_arg1) = s
  clear * - X s
  funext i
  idx_vars i
  pointwise
  rw [turned_0, turned_1]
  have hq : i2.val / 128 < 128 := by omega
  rw [Pixel.line_scaled _ (Nat.mod_lt _ (by norm_num)), Pixel.line_scaled _ hq, Pixel.bits_two, Pixel.bits_turn,
    Fin.sum_univ_one, Fin.sum_univ_one]
  rfl

end Cert.ReferenceIdeal.Hand
end
-- ==== Proof.Value.lean ====
/-
  The kernel's result at an index, over the extended reals, and that it is the reference's.
-/
module

public import proofs.«01_k».proof.Proof.Tables
public import proofs.«01_k».proof.Proof.Result
public import proofs.«01_k».proof.Proof.RefValue

@[expose] public section

set_option maxRecDepth 16384

noncomputable section

namespace Cert.KernelIdeal.Hand

open Cert.KernelIdeal Cert.KernelIdeal.Gen
open Idealize.ShloMosaic

/-- Tile j of half h at row r and column c. -/
theorem tileAt_at (h : Fin 2) (s : Ideal .f32) (b : Vec Ideal S256x2 .f32) (j : ℕ) (hj : j < 128) (r c : Fin 128) :
    tileAt h s b j hj (ix2 r c)
      = Pixel.product (b (ix2 (⟨128 * h.val + r.val, by omega⟩ : Fin 256) 0)) (b (ix2 (⟨128 * h.val + r.val, by omega⟩ : Fin 256) 1)) s
          ((Pixel.line c.val : ℝ) : EReal) ((Pixel.line j : ℝ) : EReal) := by
  unfold tileAt
  split
  · rename_i hp
    rw [tileE_at, cut_at, cut_at, gxTab_at, gyTab_at]
    have e : 2 * (j / 2) = j := by omega
    simp only [e]
    rfl
  · rename_i hp
    rw [tileO_at, cut_at, cut_at, gxTab_at, persTab_at, expo_at, oddLine_eq _ (by omega)]
    have e : 2 * (j / 2) + 1 = j := by omega
    simp only [e]
    rfl

/-- A block at row p and column q. -/
theorem blk_at (s : Ideal .f32) (b : Vec Ideal S256x2 .f32) (p : Fin 256) (q : Fin 16384) :
    blk s b (ix2 p q) = Pixel.product (b (ix2 p 0)) (b (ix2 p 1)) s
      ((Pixel.line (q.val % 128) : ℝ) : EReal) ((Pixel.line (q.val / 128) : ℝ) : EReal) := by
  have h := tileAt_at ⟨p.val / 128, by omega⟩ s b (q.val / 128) (by omega) ⟨p.val % 128, by omega⟩ ⟨q.val % 128, by omega⟩
  have e : (⟨128 * (p.val / 128) + p.val % 128, by omega⟩ : Fin 256) = p := Fin.ext (by show 128 * (p.val / 128) + p.val % 128 = p.val; omega)
  simp only [e] at h
  exact h

theorem width_at (s : FVec Ideal S1 .f32) : width s = s (ix1 0) := by
  unfold width
  refine congrArg s (funext fun a => ?_)
  fin_cases a
  rfl

/-- The pairs, listed one diagram below the other. -/
theorem flat_at (X : FVec Ideal S16x256x2 .f32) (b : Fin 16) (p : Fin 256) (k : Fin 2) :
    shapeCast S4096x2 X shapeCasts_S16x256x2_S4096x2 (ix2 (⟨256 * b.val + p.val, by omega⟩ : Fin 4096) k) = X (ix3 b p k) := by
  pointwise

theorem folded_at (V : FVec Ideal S4096x16384 .f32) (b : Fin 16) (p : Fin 256) (q : Fin 16384) :
    shapeCast S16x256x16384 V shapeCasts_S4096x16384_S16x256x16384 (ix3 b p q) = V (ix2 (⟨256 * b.val + p.val, by omega⟩ : Fin 4096) q) := by
  pointwise
  simp only [Nat.mul_comm]

theorem blocks_at (s : Ideal .f32) (Y : Vec Ideal S4096x2 .f32) (b : Fin 16) (p : Fin 256) (q : Fin 16384) :
    blocks s Y (ix2 (⟨256 * b.val + p.val, by omega⟩ : Fin 4096) q)
      = Pixel.product (Y (ix2 (⟨256 * b.val + p.val, by omega⟩ : Fin 4096) 0)) (Y (ix2 (⟨256 * b.val + p.val, by omega⟩ : Fin 4096) 1)) s
          ((Pixel.line (q.val % 128) : ℝ) : EReal) ((Pixel.line (q.val / 128) : ℝ) : EReal) := by
  have hb : (256 * b.val + p.val) / 256 = b.val := by omega
  have hp : (256 * b.val + p.val) % 256 = p.val := by omega
  have h := blk_at s (rows Y b) p q
  have e : blocks s Y (ix2 (⟨256 * b.val + p.val, by omega⟩ : Fin 4096) q) = blk s (rows Y b) (ix2 p q) := by
    show blk s (rows Y ⟨(256 * b.val + p.val) / 256, _⟩) (ix2 ⟨(256 * b.val + p.val) % 256, _⟩ q) = _
    simp only [hb, hp]
  rw [e, h]
  rfl

/-- The kernel's result is the reference's image, if the width is not zero. -/
theorem result_eq (s : FVec Ideal S1 .f32) (X : FVec Ideal S16x256x2 .f32) (hs : s (ix1 0) ≠ 0) :
    result s X = Cert.ReferenceIdeal.Hand.image X s := by
  funext i
  idx_vars i
  unfold result
  rw [folded_at, blocks_at, flat_at, flat_at, width_at, Pixel.product_eq _ _ _ _ _ hs]
  rfl

end Cert.KernelIdeal.Hand
end
-- ==== Proof.Algebraic.lean ====
/-
  The kernel and the reference return the same array, at every width that is not zero.
-/
module

public import proofs.«01_k».proof.Proof.Frames
public import proofs.«01_k».proof.Proof.Value
public import Idealize.ShloMosaic.Lib.ReduceAll

@[expose] public section

set_option maxRecDepth 16384

noncomputable section

namespace Cert.Hand

open Idealize.ShloMosaic Idealize.SL.Sem

instance preFacts : Cert.Pre_sg_nonzero.Facts where
  bcast_S_S1 := by decide
  reducesTo_S1_S_d0 := by decide
  h_S_ := by decide

theorem frame_ideal_nonzero : Cert.quiescent_KernelIdeal_pre_sg_nonzero := fun m g _ => frame_ideal m g trivial

theorem frame_reference_nonzero : Cert.quiescent_ReferenceIdeal_pre_sg_nonzero := fun m g _ => frame_reference m g trivial

/-- The precondition says that the width is not zero. -/
theorem width_ne_zero (X : FVec Ideal Cert.Pre_sg_nonzero.S16x256x2 .f32) (s : FVec Ideal Cert.Pre_sg_nonzero.S1 .f32)
    (h : Cert.Pre_sg_nonzero.fn (F := Ideal) X s = fun _ => 1#1) : s (ix1 0) ≠ 0 := by
  intro h0
  unfold Cert.Pre_sg_nonzero.fn at h
  have hx := Host.reduce_andi_eq_one _ _ _ _ _ (congrFun h (fun a => a.elim0)) (ix1 0) (funext fun a => a.elim0)
  have hz : (cmpf .une s (constant Cert.Pre_sg_nonzero.S1 .f32 0x00000000#32) : IVec Cert.Pre_sg_nonzero.S1 1) (ix1 0) = 1#1 := hx
  pointwise at hz
  rw [h0] at hz
  simp at hz

theorem algebraic : Cert.algebraic_KernelIdeal_ReferenceIdeal_pre_sg_nonzero := by
  intro m g m' g' hpre hm
  refine ⟨fun c => Cert.KernelIdeal.Hand.result (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg0)), ?_, ?_⟩
  · exact (θ_run _ _ _).mono (fun _ h => h.1) (Cert.KernelIdeal.Hand.run (F := Ideal) m g)
  · refine (θ_run _ _ _).mono (fun r h c => ⟨(h c).1.trans ?_, (h c).2⟩) (Cert.ReferenceIdeal.Hand.run m' g')
    rw [(hm c).1, (hm c).2]
    exact (Cert.KernelIdeal.Hand.result_eq _ _ (width_ne_zero _ _ (hpre c))).symm

end Cert.Hand
end
-- ==== Proof.lean ====
/-
  The claims, put together.
-/
module

public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Hand.preFacts,
    Cert.Hand.frame_kernel, Cert.Hand.frame_ideal, Cert.Hand.frame_ideal_nonzero, Cert.Hand.frame_reference,
    Cert.Hand.frame_reference_nonzero, Cert.Hand.preserves, Cert.Hand.algebraic⟩

end Cert.Proof

end
